-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 1024, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 256, 512]⟩ ⟨3, ![2, 1024, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x1024x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x4x64x256 : Shape := ⟨4, ![2, 4, 64, 256]⟩
abbrev S2x4x64x512 : Shape := ⟨4, ![2, 4, 64, 512]⟩
abbrev S2x256x256 : Shape := ⟨3, ![2, 256, 256]⟩
abbrev S4 : Shape := ⟨1, ![4]⟩
abbrev S_ : Shape := ⟨0, ![]⟩
abbrev S1 : Shape := ⟨1, ![1]⟩
abbrev S2x4x64x128 : Shape := ⟨4, ![2, 4, 64, 128]⟩
abbrev S1x256x512 : Shape := ⟨3, ![1, 256, 512]⟩
abbrev S256x256 : Shape := ⟨2, ![256, 256]⟩
abbrev S1x256x256 : Shape := ⟨3, ![1, 256, 256]⟩
abbrev S128x128 : Shape := ⟨2, ![128, 128]⟩
abbrev S1x256x64 : Shape := ⟨3, ![1, 256, 64]⟩
abbrev S256x64 : Shape := ⟨2, ![256, 64]⟩
abbrev S1x1x64x256 : Shape := ⟨4, ![1, 1, 64, 256]⟩
abbrev S64x256 : Shape := ⟨2, ![64, 256]⟩
abbrev S256 : Shape := ⟨1, ![256]⟩
abbrev S256x1 : Shape := ⟨2, ![256, 1]⟩
abbrev S1x128x64 : Shape := ⟨3, ![1, 128, 64]⟩
abbrev S128x64 : Shape := ⟨2, ![128, 64]⟩
abbrev S1x1x64x128 : Shape := ⟨4, ![1, 1, 64, 128]⟩
abbrev S64x128 : Shape := ⟨2, ![64, 128]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x4x64x256, .f32⟩
  | .hbm, ⟨6, _⟩ => ⟨S2x4x64x256, .f32⟩
  | .hbm, ⟨7, _⟩ => ⟨S2x256x512, .bf16⟩
  | .local _ .vmem, ⟨0, _⟩ => ⟨S2x256x512, .f32⟩
  | .local _ .vmem, ⟨1, _⟩ => ⟨S512x256, .f32⟩
  | .local _ .vmem, ⟨2, _⟩ => ⟨S2x4x64x256, .f32⟩
  | .local _ .vmem, ⟨3, _⟩ => ⟨S2x4x64x256, .f32⟩
  | .local _ .vmem, ⟨4, _⟩ => ⟨S256x512, .f32⟩
  | .local _ .vmem, ⟨5, _⟩ => ⟨S2x256x512, .bf16⟩
  | .local _ .vmem, ⟨6, _⟩ => ⟨S2x4x64x512, .bf16⟩
  | .local _ .vmem, ⟨7, _⟩ => ⟨S2x4x64x512, .bf16⟩
  | .local _ .vmem, ⟨8, _⟩ => ⟨S2x256x256, .bf16⟩
  | .local _ .vmem, ⟨9, _⟩ => ⟨S256x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let c1_i32_0 : BitVec 32 := 1#32
  let v6 : BitVec 32 := Scalar.subi v2 c1_i32_0
  let v7 : BitVec 32 := Scalar.select v3 v6 v2
  let c1_i32_3 : BitVec 32 := 1#32
  let v10 : BitVec 32 := Scalar.muli v7 c1_i32_3
  let v11 : BitVec 32 := Scalar.addi c0_i32_4 v10
  v11.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let c1_i32_1 : BitVec 32 := 1#32
  let v8 : BitVec 32 := Scalar.addi v2 c1_i32_1
  let v9 : BitVec 32 := Scalar.select v4 v8 v2
  let c1_i32_6 : BitVec 32 := 1#32
  let v12 : BitVec 32 := Scalar.muli v9 c1_i32_6
  let v13 : BitVec 32 := Scalar.addi c0_i32_7 v12
  v13.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v20 : BitVec 32 := Scalar.extui v4
  let c0_i32_15 : BitVec 32 := 0#32
  let v21 : BitVec 1 := Scalar.cmpi .ne v20 c0_i32_15
  v21

def k0_dev3 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_398 : BitVec 32 := 1#32
  let v483 : BitVec 32 := Scalar.addi v2 c1_i32_398
  let c1_i32_401 : BitVec 32 := 1#32
  let v484 : BitVec 32 := Scalar.muli v483 c1_i32_401
  let v485 : BitVec 32 := Scalar.addi c0_i32_402 v484
  v485.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v22 : BitVec 32 := Scalar.extui v3
  let c0_i32_16 : BitVec 32 := 0#32
  let v23 : BitVec 1 := Scalar.cmpi .ne v22 c0_i32_16
  v23

def k0_dev4 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_398 : BitVec 32 := 1#32
  let v483 : BitVec 32 := Scalar.subi v2 c1_i32_398
  let c1_i32_401 : BitVec 32 := 1#32
  let v484 : BitVec 32 := Scalar.muli v483 c1_i32_401
  let v485 : BitVec 32 := Scalar.addi c0_i32_402 v484
  v485.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v30 : BitVec 32 := Scalar.extui v4
  let c0_i32_25 : BitVec 32 := 0#32
  let v31 : BitVec 1 := Scalar.cmpi .ne v30 c0_i32_25
  v31

def k0_dev5 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_398 : BitVec 32 := 1#32
  let v483 : BitVec 32 := Scalar.addi v2 c1_i32_398
  let c1_i32_401 : BitVec 32 := 1#32
  let v484 : BitVec 32 := Scalar.muli v483 c1_i32_401
  let v485 : BitVec 32 := Scalar.addi c0_i32_402 v484
  v485.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v32 : BitVec 32 := Scalar.extui v3
  let c0_i32_26 : BitVec 32 := 0#32
  let v33 : BitVec 1 := Scalar.cmpi .ne v32 c0_i32_26
  v33

def k0_dev6 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_398 : BitVec 32 := 1#32
  let v483 : BitVec 32 := Scalar.subi v2 c1_i32_398
  let c1_i32_401 : BitVec 32 := 1#32
  let v484 : BitVec 32 := Scalar.muli v483 c1_i32_401
  let v485 : BitVec 32 := Scalar.addi c0_i32_402 v484
  v485.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x1024x256, .f32⟩
  | .hbm, ⟨6, _⟩ => ⟨S2x1024x4x64, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S2x4x1024x1024, .f32⟩
  | .hbm, ⟨19, _⟩ => ⟨S_, .f32⟩
  | .hbm, ⟨20, _⟩ => ⟨S2x4x1024x1024, .f32⟩
  | .hbm, ⟨21, _⟩ => ⟨S2x4x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S2x4x1024x1024, .i1⟩
  | .hbm, ⟨26, _⟩ => ⟨S2x4x1024x1024, .f32⟩
  | .hbm, ⟨27, _⟩ => ⟨S2x4x1024x1024, .f32⟩
  | .hbm, ⟨28, _⟩ => ⟨S_, .f32⟩
  | .hbm, ⟨29, _⟩ => ⟨S2x4x1024, .f32⟩
  | .hbm, ⟨30, _⟩ => ⟨S2x4x1024x1, .f32⟩
  | .hbm, ⟨31, _⟩ => ⟨S2x4x1024x1024, .f32⟩
  | .hbm, ⟨32, _⟩ => ⟨S2x4x1024x1024, .f32⟩
  | .hbm, ⟨33, _⟩ => ⟨S2x4x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S2x4x1024, .f32⟩
  | .hbm, ⟨39, _⟩ => ⟨S2x4x1024x1, .f32⟩
  | .hbm, ⟨40, _⟩ => ⟨S_, .f32⟩
  | .hbm, ⟨41, _⟩ => ⟨S_, .f32⟩
  | .hbm, ⟨42, _⟩ => ⟨S2x4x1024x1, .i1⟩
  | .hbm, ⟨43, _⟩ => ⟨S2x4x1024x1, .f32⟩
  | .hbm, ⟨44, _⟩ => ⟨S2x4x1024x1, .f32⟩
  | .hbm, ⟨45, _⟩ => ⟨S2x4x1024x1024, .f32⟩
  | .hbm, ⟨46, _⟩ => ⟨S2x4x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S2x4x1024x1024, .i1⟩
  | .hbm, ⟨51, _⟩ => ⟨S2x4x1024x1024, .f32⟩
  | .hbm, ⟨52, _⟩ => ⟨S2x4x1024x1024, .f32⟩
  | .hbm, ⟨53, _⟩ => ⟨S2x4x64x1024, .f32⟩
  | .hbm, ⟨54, _⟩ => ⟨S2x1024x4x64, .f32⟩
  | .hbm, ⟨55, _⟩ => ⟨S2x1024x256, .f32⟩
  | .hbm, ⟨56, _⟩ => ⟨S2x1024x512, .f32⟩
  | .hbm, ⟨57, _⟩ => ⟨S2x1024x512, .bf16⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Protocol.lean ====
/-
  The protocol of the halo exchange: the cells (one barrier cell, four send cells and four receive cells on each device), what
  each payment on a cell hands over, what each device owes when it starts, and the order in which the cells may be waited for.

  The key scratch and the value scratch have 512 columns: 256 of the device's own, then 128 of its left neighbour's last
  columns, then 128 of its right neighbour's first columns. Device 0 has no left neighbour and device 3 no right one.
-/
module

public import proofs.«01_k».proof.Proof.Gen.KernelIdeal.Frame
public import proofs.«01_k».proof.Proof.Gen.KernelIdeal.Skeleton
public import Idealize.ShloMosaic.Lib.ValueIdx
public import Idealize.ShloMosaic.Lib.Rounds

@[expose] public section

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelIdeal Cert.KernelIdeal.Gen

variable {F : FTy → Type} [FloatOps F]

/-- The pipeline library's ghost state and the exchange's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Neighbours -/

/-- The device to the right, round the ring. -/
def rgt (c : Dev nD) : Dev nD := ⟨(c.val + 1) % 4, Nat.mod_lt _ (by decide)⟩
/-- The device to the left, round the ring. -/
def lft (c : Dev nD) : Dev nD := ⟨(c.val + 3) % 4, Nat.mod_lt _ (by decide)⟩
/-- Left of the right neighbour is the device, -/
theorem lft_rgt (c : Dev nD) : lft (rgt c) = c := by revert c; decide
/-- as is right of the left one. -/
theorem rgt_lft (c : Dev nD) : rgt (lft c) = c := by revert c; decide

/-- The device has a left neighbour. -/
abbrev HasL (c : Dev nD) : Prop := 0 < c.val
/-- The device has a right neighbour. -/
abbrev HasR (c : Dev nD) : Prop := c.val < 3

/-- A right neighbour has a left neighbour, -/
theorem hasL_rgt {c : Dev nD} (h : HasR c) : HasL (rgt c) := by revert c; decide
/-- and a left one a right neighbour. -/
theorem hasR_lft {c : Dev nD} (h : HasL c) : HasR (lft c) := by revert c; decide

/-- The device the first signal goes to: the left neighbour, or the device itself. -/
def tgt1 (c : Dev nD) : Dev nD := if HasL c then lft c else c
/-- The device the second signal goes to: the right neighbour, or the device itself. -/
def tgt2 (c : Dev nD) : Dev nD := if HasR c then rgt c else c

/-! ## Cells -/

abbrev barS : Sem sig := barrier0
/-- The four send semaphores. -/
abbrev sndS (k : Fin 4) : DmaSem sig := ⟨6 + k.val, by have := k.isLt; show 6 + k.val < 14; omega⟩
/-- The four receive semaphores. -/
abbrev rcvS (k : Fin 4) : DmaSem sig := ⟨10 + k.val, by have := k.isLt; show 10 + k.val < 14; omega⟩

abbrev barCell (c : Dev nD) : GSem nD τ sig := ((c : Thread nD τ), .reg barS)
abbrev sndCell (k : Fin 4) (c : Dev nD) : GSem nD τ sig := ((c : Thread nD τ), .dma (sndS k))
abbrev rcvCell (k : Fin 4) (c : Dev nD) : GSem nD τ sig := ((c : Thread nD τ), .dma (rcvS k))

/-! ## Columns of the scratches, and their points-tos -/

abbrev kM : Memref sig .tc .vmem S2x4x64x512 .bf16 := Memref.whole cc0_scratch0
abbrev vM : Memref sig .tc .vmem S2x4x64x512 .bf16 := Memref.whole cc0_scratch1

/-- The device's own 256 columns. -/
abbrev rOwn : Rect S2x4x64x512 := Rect.unit (s := S2x4x64x512) ![0, 0, 0, 0] S2x4x64x256.size inb_S2x4x64x512_S2x4x64x256_0_0_0_0
/-- The first 128 of them, sent to the left. -/
abbrev rLo : Rect S2x4x64x512 := Rect.unit (s := S2x4x64x512) ![0, 0, 0, 0] S2x4x64x128.size inb_S2x4x64x512_S2x4x64x128_0_0_0_0
/-- The last 128 of them, sent to the right. -/
abbrev rHi : Rect S2x4x64x512 := Rect.unit (s := S2x4x64x512) ![0, 0, 0, 128] S2x4x64x128.size inb_S2x4x64x512_S2x4x64x128_0_0_0_128
/-- The columns the left neighbour fills. -/
abbrev rL : Rect S2x4x64x512 := Rect.unit (s := S2x4x64x512) ![0, 0, 0, 256] S2x4x64x128.size inb_S2x4x64x512_S2x4x64x128_0_0_0_256
/-- The columns the right neighbour fills. -/
abbrev rR : Rect S2x4x64x512 := Rect.unit (s := S2x4x64x512) ![0, 0, 0, 384] S2x4x64x128.size inb_S2x4x64x512_S2x4x64x128_0_0_0_384

/-- Contents of a key or value scratch. -/
abbrev KV (F : FTy → Type) : Type := Vec F S2x4x64x512 .bf16

/-- Columns `r` of device `c`'s key scratch, at the contents `f`. -/
abbrev kPts (c : Dev nD) (r : Rect S2x4x64x512) (q : PosShare TreeShare) (f : KV F) : sProp 𝕄 :=
  kM.view.loc (c : Thread nD τ) ↦[kM.view.setOn r.set]{q} f
/-- Columns `r` of device `c`'s value scratch, at the contents `f`. -/
abbrev vPts (c : Dev nD) (r : Rect S2x4x64x512) (q : PosShare TreeShare) (f : KV F) : sProp 𝕄 :=
  vM.view.loc (c : Thread nD τ) ↦[vM.view.setOn r.set]{q} f

/-- The units a copy of 128 columns adds to a cell. -/
abbrev N : ℕ := (kM.slice rL (fun _ => rfl)).view.dmaCredit
/-- A copy moves something. -/
theorem N_pos : 0 < N := View.dmaCredit_pos _ (by decide)

/-! ## The full contents of a scratch -/

/-- Own columns `own c`, then the left neighbour's last 128 (or `z`), then the right neighbour's first 128 (or `z'`). -/
def full (own : Dev nD → Vec F S2x4x64x256 .bf16) (z z' : Vec F S2x4x64x128 .bf16) (c : Dev nD) : KV F := fun i =>
  if h₁ : (i 3).val < 256 then own c (ix4 (i 0) (i 1) (i 2) ⟨(i 3).val, h₁⟩)
  else if h₂ : (i 3).val < 384 then
    if HasL c then own (lft c) (ix4 (i 0) (i 1) (i 2) ⟨(i 3).val - 128, by omega⟩)
    else z (ix4 (i 0) (i 1) (i 2) ⟨(i 3).val - 256, by omega⟩)
  else
    if HasR c then own (rgt c) (ix4 (i 0) (i 1) (i 2) ⟨(i 3).val - 384, by have := (i 3).isLt; have : (i 3).val < 512 := this; omega⟩)
    else z' (ix4 (i 0) (i 1) (i 2) ⟨(i 3).val - 384, by have := (i 3).isLt; have : (i 3).val < 512 := this; omega⟩)

variable (X2 X3 : Dev nD → Vec F S2x4x64x256 .f32)

/-- The key scratch once the exchange is over, from every device's transposed keys. -/
def KF (c : Dev nD) : KV F := full (fun c => k0_pay2 (X2 c)) k0_pay5 k0_pay7 c
/-- The value scratch once the exchange is over. -/
def VF (c : Dev nD) : KV F := full (fun c => k0_pay3 (X3 c)) k0_pay6 k0_pay8 c

/-! ## The schedule -/

/-- The device at the other end of copy `k`: to the right for copies 0 (keys) and 1 (values), to the left for 2 (keys) and 3 (values). -/
def peer (k : Fin 4) (c : Dev nD) : Dev nD := if k.val < 2 then rgt c else lft c

/-- The columns of device `d`'s scratches that an incoming copy `k` fills. -/
def slot (k : Fin 4) (d : Dev nD) (f : KV F) : sProp 𝕄 :=
  match k with
  | 0 => kPts d rL fullShare f
  | 1 => vPts d rL fullShare f
  | 2 => kPts d rR fullShare f
  | 3 => vPts d rR fullShare f

/-- The scratch copy `k` goes into, once the exchange is over. -/
def XF (k : Fin 4) (c : Dev nD) : KV F :=
  match k with
  | 0 | 2 => KF X2 c
  | 1 | 3 => VF X3 c

/-- What a landed copy hands to its receiver. -/
abbrev rcvPay (k : Fin 4) (c : Dev nD) : sProp 𝕄 := slot k c (XF X2 X3 k c)
/-- What a finished copy gives its sender back: the half share it lent. -/
def sndPay (k : Fin 4) (c : Dev nD) : sProp 𝕄 :=
  match k with
  | 0 => kPts c rHi fullShare.right (KF X2 c)
  | 1 => vPts c rHi fullShare.right (VF X3 c)
  | 2 => kPts c rLo fullShare.right (KF X2 c)
  | 3 => vPts c rLo fullShare.right (VF X3 c)

/-- Receive cell `k` of device `c` is used: the neighbour that fills those columns is there. -/
abbrev Rcv (k : Fin 4) (c : Dev nD) : Prop := if k.val < 2 then HasL c else HasR c
/-- Send cell `k` of device `c` is used. -/
abbrev Snd (k : Fin 4) (c : Dev nD) : Prop := if k.val < 2 then HasR c else HasL c

/-- What device `c` may use of its peer's scratches for copy `k`. -/
def grant (k : Fin 4) (c : Dev nD) : sProp 𝕄 :=
  if Snd k c then iprop((∃ f, slot k (peer k c) f) ∗ reached ER (rcvCell k (peer k c)) 0) else iprop(emp)
/-- What device `c` may use of its left neighbour's scratches. -/
def grantL (c : Dev nD) : sProp 𝕄 := iprop(grant 2 c ∗ grant 3 c)
/-- What device `c` may use of its right neighbour's scratches. -/
def grantR (c : Dev nD) : sProp 𝕄 := iprop(grant 0 c ∗ grant 1 c)

/-- The payments on a cell of device `c` in its only round. -/
def duty0 : SemLoc sig → Dev nD → Finset Bool
  | .reg _, _ => {false, true}
  | .dma i, c =>
    if i.val < 6 then ∅
    else if h : i.val < 10 then (if Snd ⟨i.val - 6, by omega⟩ c then {false} else ∅)
    else (if Rcv ⟨i.val - 10, by have := i.isLt; have : i.val < 14 := this; omega⟩ c then {false} else ∅)
/-- What a payment on a cell of device `c` hands over. -/
def pay0 : SemLoc sig → Dev nD → Bool → sProp 𝕄
  | .reg _, c, d => if d then grantR c else grantL c
  | .dma i, c, _ =>
    if i.val < 6 then iprop(emp)
    else if h : i.val < 10 then sndPay X2 X3 ⟨i.val - 6, by omega⟩ c
    else rcvPay X2 X3 ⟨i.val - 10, by have := i.isLt; have : i.val < 14 := this; omega⟩ c

/-- One round: two signals on a barrier cell, one copy on a send or receive cell that is used. -/
def haloRd : Rounds.Schedule (GSem nD τ sig) Bool 𝕄 where
  duties g r := if r = 0 ∧ g.1.2 = .tc then duty0 g.2 g.1.1 else ∅
  unitless _ := False
  amount g _ _ := match g.2 with | .reg _ => 1 | .dma _ => N
  payload g _ d := pay0 X2 X3 g.2 g.1.1 d
  amount_pos g _ _ _ := by
    rcases g with ⟨t, s | i⟩
    · exact Nat.one_pos
    · exact N_pos

instance haloRd_payload_storable (g : GSem nD τ sig) (r : ℕ) (d : Bool) :
    BI.Storable (upEmb : UEmb _ 𝕄) ((haloRd (F := F) X2 X3).payload g r d) := by
  show BI.Storable upEmb (pay0 X2 X3 g.2 g.1.1 d)
  unfold pay0 grantL grantR grant sndPay rcvPay slot
  (repeat' split) <;> infer_instance

section Sched

variable (c : Dev nD) (k : Fin 4)

/-- A barrier's first round has two duties. -/
theorem duties_bar : (haloRd (F := F) X2 X3).duties (barCell c) 0 = {false, true} := by
  dsimp only [haloRd]; exact if_pos ⟨rfl, rfl⟩
/-- A send semaphore's has one, where the copy is sent. -/
theorem duties_snd (h : Snd k c) : (haloRd (F := F) X2 X3).duties (sndCell k c) 0 = {false} := by
  dsimp only [haloRd]; rw [if_pos ⟨rfl, rfl⟩]
  revert k; intro k; fin_cases k <;> intro h <;> exact if_pos h
/-- A receive semaphore's has one, where the copy comes in. -/
theorem duties_rcv (h : Rcv k c) : (haloRd (F := F) X2 X3).duties (rcvCell k c) 0 = {false} := by
  dsimp only [haloRd]; rw [if_pos ⟨rfl, rfl⟩]
  revert k; intro k; fin_cases k <;> intro h <;> exact if_pos h
/-- A send semaphore has no duty where no copy is sent, -/
theorem duties_snd_not (h : ¬ Snd k c) : (haloRd (F := F) X2 X3).duties (sndCell k c) 0 = ∅ := by
  dsimp only [haloRd]; rw [if_pos ⟨rfl, rfl⟩]
  revert k; intro k; fin_cases k <;> intro h <;> exact if_neg h
/-- nor a receive semaphore where none comes in. -/
theorem duties_rcv_not (h : ¬ Rcv k c) : (haloRd (F := F) X2 X3).duties (rcvCell k c) 0 = ∅ := by
  dsimp only [haloRd]; rw [if_pos ⟨rfl, rfl⟩]
  revert k; intro k; fin_cases k <;> intro h <;> exact if_neg h
/-- There is no later round. -/
theorem duties_later (g : GSem nD τ sig) : ∀ r, 1 ≤ r → (haloRd (F := F) X2 X3).duties g r = ∅ :=
  fun r hr => by dsimp only [haloRd]; rw [if_neg (fun h => by omega)]

/-- A signal counts one. -/
theorem amount_bar (d : Bool) : (haloRd (F := F) X2 X3).amount (barCell c) 0 d = 1 := rfl
/-- A sent copy counts its size, -/
theorem amount_snd (d : Bool) : (haloRd (F := F) X2 X3).amount (sndCell k c) 0 d = N := rfl
/-- and so does an arrived one. -/
theorem amount_rcv (d : Bool) : (haloRd (F := F) X2 X3).amount (rcvCell k c) 0 d = N := rfl

/-- A barrier waits for two signals, -/
theorem expect_bar : (haloRd (F := F) X2 X3).expect (barCell c) 0 = 2 := by
  unfold Schedule.expect Schedule.amountOf; rw [duties_bar, Finset.sum_pair (by decide), amount_bar, amount_bar]
/-- a send semaphore for the copy's size, -/
theorem expect_snd (h : Snd k c) : (haloRd (F := F) X2 X3).expect (sndCell k c) 0 = N := by
  unfold Schedule.expect Schedule.amountOf; rw [duties_snd X2 X3 c k h, Finset.sum_singleton, amount_snd]
/-- and a receive semaphore too. -/
theorem expect_rcv (h : Rcv k c) : (haloRd (F := F) X2 X3).expect (rcvCell k c) 0 = N := by
  unfold Schedule.expect Schedule.amountOf; rw [duties_rcv X2 X3 c k h, Finset.sum_singleton, amount_rcv]

/-- What each of a barrier's signals carries. -/
theorem payload_bar (d : Bool) : (haloRd (F := F) X2 X3).payload (barCell c) 0 d = if d then grantR c else grantL c := rfl
/-- What a sent copy gives back. -/
theorem payload_snd (d : Bool) : (haloRd (F := F) X2 X3).payload (sndCell k c) 0 d = sndPay X2 X3 k c := by
  fin_cases k <;> rfl
/-- What an arrived copy brings. -/
theorem payload_rcv (d : Bool) : (haloRd (F := F) X2 X3).payload (rcvCell k c) 0 d = rcvPay X2 X3 k c := by
  fin_cases k <;> rfl

/-- All that a barrier's round brings. -/
theorem rest_bar : bigSep ((haloRd (F := F) X2 X3).duties (barCell c) 0 \ ∅) (fun d => (haloRd (F := F) X2 X3).payload (barCell c) 0 d)
    = iprop(grantL c ∗ grantR c) := by
  rw [Finset.sdiff_empty, duties_bar, bigSep_insert (by decide), bigSep_singleton]; rfl
/-- All that a send semaphore's round brings. -/
theorem rest_snd (h : Snd k c) : bigSep ((haloRd (F := F) X2 X3).duties (sndCell k c) 0 \ ∅) (fun d => (haloRd (F := F) X2 X3).payload (sndCell k c) 0 d)
    = sndPay X2 X3 k c := by
  rw [Finset.sdiff_empty, duties_snd X2 X3 c k h, bigSep_singleton, payload_snd]
/-- All that a receive semaphore's round brings. -/
theorem rest_rcv (h : Rcv k c) : bigSep ((haloRd (F := F) X2 X3).duties (rcvCell k c) 0 \ ∅) (fun d => (haloRd (F := F) X2 X3).payload (rcvCell k c) 0 d)
    = rcvPay X2 X3 k c := by
  rw [Finset.sdiff_empty, duties_rcv X2 X3 c k h, bigSep_singleton, payload_rcv]

end Sched

/-! ## What each device owes when it starts; the levels -/

/-- What device `c` owes its peer for copy `k`. -/
def debt (k : Fin 4) (c : Dev nD) : CellTallies nD τ sig Unit :=
  if Snd k c then tallyAt (rcvCell k (peer k c)) () N else 0
/-- The four copies. -/
def owesD (c : Dev nD) : CellTallies nD τ sig Unit := debt 3 c + debt 1 c + debt 2 c + debt 0 c
/-- The four copies and the two signals. -/
def O₀ (c : Dev nD) : CellTallies nD τ sig Unit := owesD c + tallyAt (barCell (tgt2 c)) () 1 + tallyAt (barCell (tgt1 c)) () 1

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma i => if i.val < 10 then 0 else 2

/-- Only a device's main core takes part, -/
theorem L_of_ne (g : GSem nD τ sig) (h : g.1.2 ≠ .tc) : L g = ∅ := if_neg h
/-- with one label on each of its semaphores. -/
theorem L_tc (c : Dev nD) (sm : SemLoc sig) : L ((c : Thread nD τ), sm) = {()} := if_pos rfl

/-- A device owes only copies to receive cells of TensorCores once its two signals are out. -/
theorem owesD_cell (c : Dev nD) (g : GSem nD τ sig) (u : Unit) (h : 0 < owesD c g u) :
    ∃ (k : Fin 4) (d : Dev nD), g = rcvCell k d := by
  by_contra hno
  have hz : ∀ k d, tallyAt (rcvCell k d) () N g u = 0 := fun k d => by
    rw [tallyAt_apply, if_neg (fun h' => hno ⟨k, d, h'.1⟩)]
  have hd : ∀ k, debt k c g u = 0 := fun k => by
    unfold debt; split
    · exact hz _ _
    · rfl
  unfold owesD at h
  simp only [Pi.add_apply, Finsupp.coe_add, hd, add_zero, Nat.lt_irrefl] at h

end Cert.KernelIdeal.Halo

end
-- ==== Proof.Exchange.lean ====
/-
  The exchange, step by step: each lemma takes one piece of the kernel's body that talks to a neighbour — a signal, the barrier's
  wait, one of the four guarded copies, the zero fills of an edge device, the guarded waits — from what it needs to what it leaves.
  What it leaves is stated in one form whether the neighbour is there or not.
-/
module

public import proofs.«01_k».proof.Proof.Protocol
public import Idealize.ShloMosaic.Lib.Tactic

@[expose] public section

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelIdeal Cert.KernelIdeal.Gen

variable {F : FTy → Type} [FloatOps F]

local notation "𝕄" => MT nD τ sig Unit (Elt F) ℕ UU ℕ

abbrev 𝒱₀ : Variants := Variants.none

/-! ## What the printed scalars say -/

/-- The target of the first signal, as the kernel computes it. -/
theorem dev1_eq (c : Dev nD) : (⟨k0_dev1 c, k0_dev1_lt c⟩ : Dev nD) = tgt1 c := by revert c; decide +kernel
/-- The target of the second signal. -/
theorem dev2_eq (c : Dev nD) : (⟨k0_dev2 c, k0_dev2_lt c⟩ : Dev nD) = tgt2 c := by revert c; decide +kernel
/-- The target of the keys sent to the right. -/
theorem dev3_eq (c : Dev nD) (h : k0_cond1 c = 1#1) : (⟨k0_dev3 c, k0_dev3_lt c h⟩ : Dev nD) = rgt c := by revert c; decide +kernel
/-- The target of the keys sent to the left. -/
theorem dev4_eq (c : Dev nD) (h : k0_cond2 c = 1#1) : (⟨k0_dev4 c, k0_dev4_lt c h⟩ : Dev nD) = lft c := by revert c; decide +kernel
/-- The target of the values sent to the right. -/
theorem dev5_eq (c : Dev nD) (h : k0_cond3 c = 1#1) : (⟨k0_dev5 c, k0_dev5_lt c h⟩ : Dev nD) = rgt c := by revert c; decide +kernel
/-- The target of the values sent to the left. -/
theorem dev6_eq (c : Dev nD) (h : k0_cond4 c = 1#1) : (⟨k0_dev6 c, k0_dev6_lt c h⟩ : Dev nD) = lft c := by revert c; decide +kernel
/-- The condition on sending keys to the right is a right neighbour; -/
theorem cond1_iff (c : Dev nD) : k0_cond1 c = 1#1 ↔ HasR c := by revert c; decide +kernel
/-- to the left, a left neighbour; -/
theorem cond2_iff (c : Dev nD) : k0_cond2 c = 1#1 ↔ HasL c := by revert c; decide +kernel
/-- and the same of the values to the right -/
theorem cond3_iff (c : Dev nD) : k0_cond3 c = 1#1 ↔ HasR c := by revert c; decide +kernel
/-- and to the left. -/
theorem cond4_iff (c : Dev nD) : k0_cond4 c = 1#1 ↔ HasL c := by revert c; decide +kernel

/-- The device's number as the body computes it. -/
abbrev myId (c : Dev nD) : BitVec 32 := Scalar.remsi (Scalar.divsi (Dev.word c) 1#32) 4#32
/-- The bit "there is a left neighbour". -/
abbrev bitL (c : Dev nD) : BitVec 1 := Scalar.cmpi .sgt (myId c) 0#32
/-- The bit "there is a right neighbour". -/
abbrev bitR (c : Dev nD) : BitVec 1 := Scalar.cmpi .slt (myId c) 3#32
/-- The branch on a left neighbour is taken when there is one. -/
theorem bitL_iff (c : Dev nD) : Scalar.cmpi .ne (Scalar.extui (bitL c)) 0#32 = 1#1 ↔ HasL c := by revert c; decide +kernel
/-- The branch on a right neighbour is taken when there is one. -/
theorem bitR_iff (c : Dev nD) : Scalar.cmpi .ne (Scalar.extui (bitR c)) 0#32 = 1#1 ↔ HasR c := by revert c; decide +kernel
/-- The branch on no left neighbour is taken when there is none. -/
theorem noL_iff (c : Dev nD) : Scalar.cmpi .ne (Scalar.extui (Scalar.xori (bitL c) 1#1)) 0#32 = 1#1 ↔ ¬ HasL c := by revert c; decide +kernel
/-- The branch on no right neighbour is taken when there is none. -/
theorem noR_iff (c : Dev nD) : Scalar.cmpi .ne (Scalar.extui (Scalar.xori (bitR c) 1#1)) 0#32 = 1#1 ↔ ¬ HasR c := by revert c; decide +kernel

/-- The first send semaphore, as the kernel slices it out of the four. -/
theorem snd_slice0 : ((cc0_scratch4.slice (Rect.unit (s := S4) ![0] S1.size inb_S4_S1_0)).squeeze S_ squeezes_S1_S_).sem = sndS 0 := rfl
/-- The second send semaphore. -/
theorem snd_slice1 : ((cc0_scratch4.slice (Rect.unit (s := S4) ![1] S1.size inb_S4_S1_1)).squeeze S_ squeezes_S1_S_).sem = sndS 1 := rfl
/-- The third send semaphore. -/
theorem snd_slice2 : ((cc0_scratch4.slice (Rect.unit (s := S4) ![2] S1.size inb_S4_S1_2)).squeeze S_ squeezes_S1_S_).sem = sndS 2 := rfl
/-- The fourth send semaphore. -/
theorem snd_slice3 : ((cc0_scratch4.slice (Rect.unit (s := S4) ![3] S1.size inb_S4_S1_3)).squeeze S_ squeezes_S1_S_).sem = sndS 3 := rfl
/-- The first receive semaphore, as the kernel slices it out of the four. -/
theorem rcv_slice0 : ((cc0_scratch5.slice (Rect.unit (s := S4) ![0] S1.size inb_S4_S1_0)).squeeze S_ squeezes_S1_S_).sem = rcvS 0 := rfl
/-- The second receive semaphore. -/
theorem rcv_slice1 : ((cc0_scratch5.slice (Rect.unit (s := S4) ![1] S1.size inb_S4_S1_1)).squeeze S_ squeezes_S1_S_).sem = rcvS 1 := rfl
/-- The third receive semaphore. -/
theorem rcv_slice2 : ((cc0_scratch5.slice (Rect.unit (s := S4) ![2] S1.size inb_S4_S1_2)).squeeze S_ squeezes_S1_S_).sem = rcvS 2 := rfl
/-- The fourth receive semaphore. -/
theorem rcv_slice3 : ((cc0_scratch5.slice (Rect.unit (s := S4) ![3] S1.size inb_S4_S1_3)).squeeze S_ squeezes_S1_S_).sem = rcvS 3 := rfl

/-! ## The cells, all together -/

/-- The eight semaphores of the copies are different. -/
theorem cells_inj : Function.Injective (fun k : Fin 8 => (SemLoc.dma (⟨6 + k.val, by have := k.isLt; show 6 + k.val < 14; omega⟩ : DmaSem sig) : SemLoc sig)) := by decide

def barEmb : Dev nD ↪ GSem nD τ sig := ⟨fun c => barCell c, fun _ _ h => congrArg (fun g : GSem nD τ sig => g.1.1) h⟩
/-- The kernel's own semaphores: four send ones, four receive ones. -/
abbrev osem : Fin 8 → SemLoc sig := fun k => .dma ⟨6 + k.val, by have := k.isLt; show 6 + k.val < 14; omega⟩
def scEmb : Dev nD × Fin 8 ↪ GSem nD τ sig :=
  ⟨fun ck => ((ck.1 : Thread nD τ), osem ck.2), fun _ _ h =>
    Prod.ext (congrArg (fun g : GSem nD τ sig => g.1.1) h) (cells_inj (congrArg Prod.snd h))⟩

/-- The barrier cells. -/
abbrev barCells : Finset (GSem nD τ sig) := Finset.univ.map barEmb
/-- The send and receive cells. -/
abbrev scCells : Finset (GSem nD τ sig) := Finset.univ.map scEmb

/-- A barrier is among the exchange's semaphores, -/
theorem bar_mem (c : Dev nD) : barCell c ∈ (barCells ∪ scCells : Finset (GSem nD τ sig)) :=
  Finset.mem_union_left _ (Finset.mem_map_of_mem barEmb (Finset.mem_univ c))
/-- a send semaphore too, -/
theorem snd_mem (k : Fin 4) (c : Dev nD) : sndCell k c ∈ (barCells ∪ scCells : Finset (GSem nD τ sig)) :=
  Finset.mem_union_right _ (Finset.mem_map.2 ⟨(c, ⟨k.val, by omega⟩), Finset.mem_univ _, rfl⟩)
/-- and a receive semaphore. -/
theorem rcv_mem (k : Fin 4) (c : Dev nD) : rcvCell k c ∈ (barCells ∪ scCells : Finset (GSem nD τ sig)) :=
  Finset.mem_union_right _ (Finset.mem_map.2 ⟨(c, ⟨4 + k.val, by omega⟩), Finset.mem_univ _, by fin_cases k <;> rfl⟩)

variable (X2 X3 : Dev nD → Vec F S2x4x64x256 .f32)

/-- Every cell's invariant, under one map of names, and round 0 of every barrier cell reached. -/
def records (K : GSem nD τ sig → ℕ) : sProp 𝕄 :=
  iprop((bigSep (barCells ∪ scCells) fun g => cellInv ER (haloRd X2 X3) (K g) g) ∗ bigSep barCells fun g => reached ER g 0)

instance records_persistent (K : GSem nD τ sig → ℕ) : BI.Persistent (records X2 X3 K) := by unfold records; infer_instance

/-- The records hold the invariant of each of the exchange's semaphores. -/
theorem inv_at (K : GSem nD τ sig → ℕ) {g : GSem nD τ sig} (hg : g ∈ (barCells ∪ scCells : Finset (GSem nD τ sig))) :
    records X2 X3 K ⊢ cellInv ER (haloRd X2 X3) (K g) g :=
  sep_elim_left.trans (show _ ⊢ _ from bigSep_elim hg)
/-- The records say that a barrier's first round is reached. -/
theorem reached_bar (K : GSem nD τ sig → ℕ) (c : Dev nD) : records X2 X3 K ⊢ reached ER (barCell c) 0 :=
  sep_elim_right.trans (show _ ⊢ _ from bigSep_elim (Finset.mem_map_of_mem barEmb (Finset.mem_univ c)))

/-- The owner's position on a cell no payment is left on. -/
def done (g : GSem nD τ sig) : sProp 𝕄 := iprop(∃ R : ℕ, ⌜∀ r, R ≤ r → (haloRd (F := F) X2 X3).duties g r = ∅⌝ ∗ atPos ER g R ∅ 0)

/-- Such a cell gives its counter back, at zero. -/
theorem close (κ : ℕ) (g : GSem nD τ sig) :
    iprop(cellInv ER (haloRd X2 X3) κ g ∗ done X2 X3 g) ⊢ (|={Set.univ}=> semVal g 0 : sProp 𝕄) := by
  unfold done
  iintro ⟨HI, %R, %hR, Hat⟩
  iapply (Rounds.cell_close ER (haloRd X2 X3) (Set.mem_univ κ) id hR)
  isplitl [HI] <;> iassumption

/-! ## A guarded piece -/

/-- A piece under an `if` runs from `pre` to `post`, and on to `R`, when each of its branches does. -/
theorem wp_guard (c : Dev nD) {α : Type} {P : Prop} [Decidable P] {A : P → Prog (TpuEff nD τ sig (Elt F) Λ₀ .tc) α} {B : ¬ P → Prog (TpuEff nD τ sig (Elt F) Λ₀ .tc) α}
    {Q : α → sProp 𝕄} (pre post R : sProp 𝕄)
    (hA : ∀ h, iprop(pre ∗ (post -∗ R)) ⊢ wp frame (wpE (defs₀ (F := F)) 𝒱₀ c none) Set.univ (A h) Q)
    (hB : ∀ h, iprop(pre ∗ (post -∗ R)) ⊢ wp frame (wpE (defs₀ (F := F)) 𝒱₀ c none) Set.univ (B h) Q) :
    iprop(pre ∗ (post -∗ R)) ⊢ wp frame (wpE (defs₀ (F := F)) 𝒱₀ c none) Set.univ (dite P A B) Q := by
  split
  · exact hA _
  · exact hB _

omit [FloatOps F] in
/-- The empty branch leaves what it found. -/
theorem wp_skip (pre post R : sProp 𝕄) (h : pre ⊢ post) : iprop(pre ∗ (post -∗ R)) ⊢ R := by
  iintro ⟨H, Hk⟩
  iapply Hk
  iapply h $$ H

/-! ## Contents of the columns -/

omit [FloatOps F] in
/-- Two contents that agree at the columns `r` are the same there, in the key scratch. -/
theorem kPts_congr (c : Dev nD) (r : Rect S2x4x64x512) (q : PosShare TreeShare) (f g : KV F) (h : ∀ j, f (r.emb j) = g (r.emb j)) :
    kPts c r q f = kPts c r q g :=
  pointsTo_congr fun i hi => by
    obtain ⟨x, hx, rfl⟩ := Finset.mem_map.1 hi
    obtain ⟨j, rfl⟩ := r.exists_idx_of_mem hx
    exact h j
omit [FloatOps F] in
/-- And in the value scratch. -/
theorem vPts_congr (c : Dev nD) (r : Rect S2x4x64x512) (q : PosShare TreeShare) (f g : KV F) (h : ∀ j, f (r.emb j) = g (r.emb j)) :
    vPts c r q f = vPts c r q g :=
  pointsTo_congr fun i hi => by
    obtain ⟨x, hx, rfl⟩ := Finset.mem_map.1 hi
    obtain ⟨j, rfl⟩ := r.exists_idx_of_mem hx
    exact h j

section Full

variable (own : Dev nD → Vec F S2x4x64x256 .bf16) (z z' : Vec F S2x4x64x128 .bf16) (c : Dev nD)

omit [FloatOps F] in
/-- The own columns of the full contents. -/
theorem full_at_own (i : S2x4x64x512.Idx) (j : S2x4x64x256.Idx) (h : ∀ a, (i a).val = (j a).val) : full own z z' c i = own c j := by
  have h3 := h 3
  have hj : (j 3).val < 256 := (j 3).isLt
  unfold full
  rw [dif_pos (by omega)]
  congr 1
  funext a
  apply Fin.ext
  fin_cases a <;> exact h _
omit [FloatOps F] in
/-- The left halo's columns, the left neighbour being there: its last 128. -/
theorem full_at_left (hL : HasL c) (i : S2x4x64x512.Idx) (j : S2x4x64x256.Idx) (h0 : (i 0).val = (j 0).val) (h1 : (i 1).val = (j 1).val)
    (h2 : (i 2).val = (j 2).val) (h3 : (i 3).val = (j 3).val + 128) (hj : 128 ≤ (j 3).val) : full own z z' c i = own (lft c) j := by
  have hj' : (j 3).val < 256 := (j 3).isLt
  unfold full
  rw [dif_neg (by omega), dif_pos (by omega), if_pos hL]
  congr 1
  funext a
  apply Fin.ext
  fin_cases a
  · exact h0
  · exact h1
  · exact h2
  · show (i 3).val - 128 = (j 3).val; omega
omit [FloatOps F] in
/-- The right halo's columns, the right neighbour being there: its first 128. -/
theorem full_at_right (hR : HasR c) (i : S2x4x64x512.Idx) (j : S2x4x64x256.Idx) (h0 : (i 0).val = (j 0).val) (h1 : (i 1).val = (j 1).val)
    (h2 : (i 2).val = (j 2).val) (h3 : (i 3).val = (j 3).val + 384) : full own z z' c i = own (rgt c) j := by
  unfold full
  rw [dif_neg (by omega), dif_neg (by omega), if_pos hR]
  congr 1
  funext a
  apply Fin.ext
  fin_cases a
  · exact h0
  · exact h1
  · exact h2
  · show (i 3).val - 384 = (j 3).val; omega
omit [FloatOps F] in
/-- The left halo's columns of an edge device. -/
theorem full_at_left_edge (hL : ¬ HasL c) (j : rL.shape.Idx) : full own z z' c (rL.emb j) = z j := by
  have hj' : (j 3).val < 128 := (j 3).isLt
  have h3 : (rL.emb j 3).val = 256 + (j 3).val := by rw [Rect.emb_apply]; exact congrArg (256 + ·) (Nat.one_mul _)
  unfold full
  rw [dif_neg (by omega), dif_pos (by omega), if_neg hL]
  congr 1
  funext a
  apply Fin.ext
  fin_cases a
  · exact (Nat.zero_add _).trans (Nat.one_mul _)
  · exact (Nat.zero_add _).trans (Nat.one_mul _)
  · exact (Nat.zero_add _).trans (Nat.one_mul _)
  · show (rL.emb j 3).val - 256 = (j 3).val; omega
omit [FloatOps F] in
/-- The right halo's columns of an edge device. -/
theorem full_at_right_edge (hR : ¬ HasR c) (j : rR.shape.Idx) : full own z z' c (rR.emb j) = z' j := by
  have h3 : (rR.emb j 3).val = 384 + (j 3).val := by rw [Rect.emb_apply]; exact congrArg (384 + ·) (Nat.one_mul _)
  unfold full
  rw [dif_neg (by omega), dif_neg (by omega), if_neg hR]
  congr 1
  funext a
  apply Fin.ext
  fin_cases a
  · exact (Nat.zero_add _).trans (Nat.one_mul _)
  · exact (Nat.zero_add _).trans (Nat.one_mul _)
  · exact (Nat.zero_add _).trans (Nat.one_mul _)
  · show (rR.emb j 3).val - 384 = (j 3).val; omega

omit [FloatOps F] in
/-- What is stored over the own columns. -/
theorem full_own (j : rOwn.shape.Idx) : full own z z' c (rOwn.emb j) = own c j :=
  full_at_own own z z' c _ j fun a => by
    rw [Rect.emb_apply]
    fin_cases a <;> exact (Nat.zero_add _).trans (Nat.one_mul _)

/-- An index of 128 columns, as one of 256 columns, `o` further on. -/
def col (o : ℕ) (ho : o ≤ 128) (j : S2x4x64x128.Idx) : S2x4x64x256.Idx :=
  ix4 (j 0) (j 1) (j 2) ⟨o + (j 3).val, by have : (j 3).val < 128 := (j 3).isLt; omega⟩

omit [FloatOps F] in
/-- What goes to the right lands in the left halo's columns. -/
theorem full_sent_right (hR : HasR c) (j : S2x4x64x128.Idx) : full own z z' c (rHi.emb j) = full own z z' (rgt c) (rL.emb j) := by
  have e1 := full_at_own own z z' c (rHi.emb j) (col 128 (le_refl _) j) fun a => by
    rw [Rect.emb_apply]
    fin_cases a
    · exact (Nat.zero_add _).trans (Nat.one_mul _)
    · exact (Nat.zero_add _).trans (Nat.one_mul _)
    · exact (Nat.zero_add _).trans (Nat.one_mul _)
    · exact congrArg (128 + ·) (Nat.one_mul _)
  have e2 := full_at_left own z z' (rgt c) (hasL_rgt hR) (rL.emb j) (col 128 (le_refl _) j)
    ((Nat.zero_add _).trans (Nat.one_mul _)) ((Nat.zero_add _).trans (Nat.one_mul _)) ((Nat.zero_add _).trans (Nat.one_mul _))
    (by rw [Rect.emb_apply]; show 256 + 1 * (j 3).val = 128 + (j 3).val + 128; omega) (Nat.le_add_right _ _)
  rw [e1, e2, lft_rgt]
omit [FloatOps F] in
/-- What goes to the left lands in the right halo's columns. -/
theorem full_sent_left (hL : HasL c) (j : S2x4x64x128.Idx) : full own z z' c (rLo.emb j) = full own z z' (lft c) (rR.emb j) := by
  have e1 := full_at_own own z z' c (rLo.emb j) (col 0 (Nat.zero_le _) j) fun a => by
    rw [Rect.emb_apply]
    fin_cases a
    · exact (Nat.zero_add _).trans (Nat.one_mul _)
    · exact (Nat.zero_add _).trans (Nat.one_mul _)
    · exact (Nat.zero_add _).trans (Nat.one_mul _)
    · exact congrArg (0 + ·) (Nat.one_mul _)
  have e2 := full_at_right own z z' (lft c) (hasR_lft hL) (rR.emb j) (col 0 (Nat.zero_le _) j)
    ((Nat.zero_add _).trans (Nat.one_mul _)) ((Nat.zero_add _).trans (Nat.one_mul _)) ((Nat.zero_add _).trans (Nat.one_mul _))
    (by rw [Rect.emb_apply]; show 384 + 1 * (j 3).val = 0 + (j 3).val + 384; omega)
  rw [e1, e2, rgt_lft]

end Full

/-! ## Signals and the barrier's wait -/

/-- The first signal's payment: duty `true` of the left neighbour's barrier, or an edge device's own `false`. -/
def d1 (c : Dev nD) : Bool := decide (HasL c)
/-- The second signal's: duty `false` of the right neighbour's barrier, or an edge device's own `true`. -/
def d2 (c : Dev nD) : Bool := ! decide (HasR c)

/-- Incoming columns a device still holds after its signals: those no neighbour will fill, at contents not chosen. -/
def kept (k : Fin 4) (c : Dev nD) : sProp 𝕄 := if Rcv k c then iprop(emp) else iprop(∃ f, slot k c f)
/-- The same, filled. -/
def filled (k : Fin 4) (c : Dev nD) : sProp 𝕄 := if Rcv k c then iprop(emp) else slot k c (XF X2 X3 k c)

/-- What a signal grants, where the copy is sent. -/
theorem grant_pos {k : Fin 4} {c : Dev nD} (h : Snd k c) :
    (grant k c : sProp 𝕄) = iprop((∃ f, slot k (peer k c) f) ∗ reached ER (rcvCell k (peer k c)) 0) := if_pos h
/-- It grants nothing where no copy is sent. -/
theorem grant_neg {k : Fin 4} {c : Dev nD} (h : ¬ Snd k c) : (grant k c : sProp 𝕄) = iprop(emp) := if_neg h
omit [FloatOps F] in
theorem kept_pos {k : Fin 4} {c : Dev nD} (h : Rcv k c) : (kept k c : sProp 𝕄) = iprop(emp) := if_pos h
omit [FloatOps F] in
theorem kept_neg {k : Fin 4} {c : Dev nD} (h : ¬ Rcv k c) : (kept k c : sProp 𝕄) = iprop(∃ f, slot k c f) := if_neg h
/-- Before the exchange nothing is filled of a halo that a copy will fill; -/
theorem filled_pos {k : Fin 4} {c : Dev nD} (h : Rcv k c) : (filled X2 X3 k c : sProp 𝕄) = iprop(emp) := if_pos h
/-- a halo that none will fill holds its zeros from the start. -/
theorem filled_neg {k : Fin 4} {c : Dev nD} (h : ¬ Rcv k c) : (filled X2 X3 k c : sProp 𝕄) = slot k c (XF X2 X3 k c) := if_neg h

/-- The first signal goes to the left neighbour where there is one, -/
theorem tgt1_pos {c : Dev nD} (h : HasL c) : tgt1 c = lft c := if_pos h
/-- and else to the device itself. -/
theorem tgt1_neg {c : Dev nD} (h : ¬ HasL c) : tgt1 c = c := if_neg h
/-- The second signal goes to the right neighbour where there is one, -/
theorem tgt2_pos {c : Dev nD} (h : HasR c) : tgt2 c = rgt c := if_pos h
/-- and else to the device itself. -/
theorem tgt2_neg {c : Dev nD} (h : ¬ HasR c) : tgt2 c = c := if_neg h

/-- What the first signal hands over. -/
theorem pay_first (c : Dev nD) :
    iprop((∃ f, slot 0 c f) ∗ (∃ f, slot 1 c f) ∗ reached ER (rcvCell 0 c) 0 ∗ reached ER (rcvCell 1 c) 0)
      ⊢ (iprop((haloRd X2 X3).payload (barCell (tgt1 c)) 0 (d1 c) ∗ kept 0 c ∗ kept 1 c) : sProp 𝕄) := by
  rw [payload_bar]
  by_cases h : HasL c
  · rw [tgt1_pos h, show d1 c = true from decide_eq_true h, if_pos rfl, kept_pos (k := 0) h, kept_pos (k := 1) h]
    unfold grantR
    rw [grant_pos (k := 0) (c := lft c) (hasR_lft h), grant_pos (k := 1) (c := lft c) (hasR_lft h),
      show peer 0 (lft c) = c from rgt_lft c, show peer 1 (lft c) = c from rgt_lft c]
    iintro ⟨H0, H1, #R0, #R1⟩
    isplitl [H0 H1]
    · isplitl [H0]
      · isplitl [H0]; · iexact H0
        iexact R0
      · isplitl [H1]; · iexact H1
        iexact R1
    isplitr <;> iempintro
  · rw [tgt1_neg h, show d1 c = false from decide_eq_false h, if_neg Bool.false_ne_true, kept_neg (k := 0) h, kept_neg (k := 1) h]
    unfold grantL
    rw [grant_neg (k := 2) (c := c) h, grant_neg (k := 3) (c := c) h]
    iintro ⟨H0, H1, -, -⟩
    isplitr
    · isplitr <;> iempintro
    isplitl [H0] <;> iassumption

/-- What the second signal hands over. -/
theorem pay_second (c : Dev nD) :
    iprop((∃ f, slot 2 c f) ∗ (∃ f, slot 3 c f) ∗ reached ER (rcvCell 2 c) 0 ∗ reached ER (rcvCell 3 c) 0)
      ⊢ (iprop((haloRd X2 X3).payload (barCell (tgt2 c)) 0 (d2 c) ∗ kept 2 c ∗ kept 3 c) : sProp 𝕄) := by
  rw [payload_bar]
  by_cases h : HasR c
  · rw [tgt2_pos h, show d2 c = false from by unfold d2; rw [decide_eq_true h]; rfl, if_neg Bool.false_ne_true, kept_pos (k := 2) h, kept_pos (k := 3) h]
    unfold grantL
    rw [grant_pos (k := 2) (c := rgt c) (hasL_rgt h), grant_pos (k := 3) (c := rgt c) (hasL_rgt h),
      show peer 2 (rgt c) = c from lft_rgt c, show peer 3 (rgt c) = c from lft_rgt c]
    iintro ⟨H0, H1, #R0, #R1⟩
    isplitl [H0 H1]
    · isplitl [H0]
      · isplitl [H0]; · iexact H0
        iexact R0
      · isplitl [H1]; · iexact H1
        iexact R1
    isplitr <;> iempintro
  · rw [tgt2_neg h, show d2 c = true from by unfold d2; rw [decide_eq_false h]; rfl, if_pos rfl, kept_neg (k := 2) h, kept_neg (k := 3) h]
    unfold grantR
    rw [grant_neg (k := 0) (c := c) h, grant_neg (k := 1) (c := c) h]
    iintro ⟨H0, H1, -, -⟩
    isplitr
    · isplitr <;> iempintro
    isplitl [H0] <;> iassumption

omit [FloatOps F] in
/-- Owing the copies only, a device may wait on its barrier cell. -/
theorem mayWait_bar (c : Dev nD) : (levAts L lv : sProp 𝕄) ⊢ MayWait (c : Thread nD τ) (.reg barS) () (owesD c) :=
  MayOwe.of_cut (L := L) (lev := lv) 1 (fun p hp => by rw [Finset.mem_singleton.mp hp, L_tc]; exact Finset.mem_singleton_self _)
    (fun g u hg => by
      obtain ⟨k, d, rfl⟩ := owesD_cell c g u hg
      rw [L_tc]; exact Finset.mem_singleton_self _)
    (fun p hp => by rw [Finset.mem_singleton.mp hp]; exact le_refl 1)
    (fun g u hg => by
      obtain ⟨k, d, rfl⟩ := owesD_cell c g u hg
      fin_cases k <;> exact Nat.lt_succ_self 1)

end Cert.KernelIdeal.Halo

end
-- ==== Proof.Steps.lean ====
/-
  The guarded pieces of the exchange: a copy to a neighbour that may not be there, a pair of waits for copies that may not have
  been made, and how a scratch's columns split between what is kept and what is lent.
-/
module

public import proofs.«01_k».proof.Proof.Exchange

@[expose] public section

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X2 X3 : Dev nD → Vec F S2x4x64x256 .f32)

/-! ## Splitting a scratch's columns -/

/-- An index lies in a rectangle of whole columns when its column does. -/
theorem mem_cols {size : Fin 4 → ℕ} (o : ℕ) (h0 : size 0 = 2) (h1 : size 1 = 4) (h2 : size 2 = 64)
    (inb : ∀ a : Fin 4, (![0, 0, 0, o] : Fin 4 → ℕ) a + size a ≤ S2x4x64x512.size a) (i : S2x4x64x512.Idx) :
    i ∈ (Rect.unit (s := S2x4x64x512) ![0, 0, 0, o] size inb).set ↔ o ≤ (i 3).val ∧ (i 3).val < o + size 3 := by
  rw [Rect.mem_set_unit]
  have i0 : (i 0).val < 2 := (i 0).isLt
  have i1 : (i 1).val < 4 := (i 1).isLt
  have i2 : (i 2).val < 64 := (i 2).isLt
  refine ⟨fun h => h 3, fun h a => ?_⟩
  fin_cases a
  · show 0 ≤ (i 0).val ∧ (i 0).val < 0 + size 0; omega
  · show 0 ≤ (i 1).val ∧ (i 1).val < 0 + size 1; omega
  · show 0 ≤ (i 2).val ∧ (i 2).val < 0 + size 2; omega
  · exact h

/-- The own columns are their two halves, -/
theorem own_eq : rOwn.set = rLo.set ∪ rHi.set := by
  ext i
  rw [Finset.mem_union, mem_cols 0 rfl rfl rfl, mem_cols 0 rfl rfl rfl, mem_cols 128 rfl rfl rfl]
  show _ ∧ _ < 0 + 256 ↔ (_ ∧ _ < 0 + 128) ∨ (_ ∧ _ < 128 + 128)
  omega
/-- which are disjoint. -/
theorem lo_hi : Disjoint rLo.set rHi.set := Rect.unit_disjoint (3 : Fin 4) (.inl (by decide))
/-- Every column is own, left halo or right halo. -/
theorem cover (i : S2x4x64x512.Idx) : i ∈ rOwn.set ∨ i ∈ rL.set ∨ i ∈ rR.set := by
  have i3 : (i 3).val < 512 := (i 3).isLt
  rw [mem_cols 0 rfl rfl rfl, mem_cols 256 rfl rfl rfl, mem_cols 384 rfl rfl rfl]
  show (_ ∧ _ < 0 + 256) ∨ (_ ∧ _ < 256 + 128) ∨ (_ ∧ _ < 384 + 128)
  omega
/-- The halos are disjoint, -/
theorem l_r : Disjoint rL.set rR.set := Rect.unit_disjoint (3 : Fin 4) (.inl (by decide))
/-- and the own columns are apart from them. -/
theorem own_lr : Disjoint rOwn.set (rL.set ∪ rR.set) :=
  Finset.disjoint_union_right.2 ⟨Rect.unit_disjoint (3 : Fin 4) (.inl (by decide)), Rect.unit_disjoint (3 : Fin 4) (.inl (by decide))⟩

omit [FloatOps F] in
/-- The whole key scratch is its own columns and the two halos. -/
theorem k_split (c : Dev nD) (f : KV F) :
    ((c : Thread nD τ).loc cc0_scratch0 ↦{fullShare} f : sProp 𝕄) ⊣⊢ iprop(kPts c rOwn fullShare f ∗ kPts c rL fullShare f ∗ kPts c rR fullShare f) := by
  have hu : (Finset.univ : Finset (Idx ((c : Thread nD τ).loc cc0_scratch0))) = kM.view.setOn rOwn.set ∪ (kM.view.setOn rL.set ∪ kM.view.setOn rR.set) := by
    refine Finset.ext fun i => ⟨fun _ => ?_, fun _ => Finset.mem_univ i⟩
    rw [Finset.mem_union, Finset.mem_union]
    exact (cover i).imp (Finset.mem_map_of_mem kM.view.emb) (Or.imp (Finset.mem_map_of_mem kM.view.emb) (Finset.mem_map_of_mem kM.view.emb))
  have h1 : Disjoint (kM.view.setOn rL.set) (kM.view.setOn rR.set) := (Finset.disjoint_map _).2 l_r
  have h2 : Disjoint (kM.view.setOn rOwn.set) (kM.view.setOn rL.set ∪ kM.view.setOn rR.set) :=
    Finset.disjoint_union_right.2 ⟨(Finset.disjoint_map _).2 (Finset.disjoint_union_right.1 own_lr).1, (Finset.disjoint_map _).2 (Finset.disjoint_union_right.1 own_lr).2⟩
  show ((c : Thread nD τ).loc cc0_scratch0 ↦[Finset.univ]{fullShare} f : sProp 𝕄) ⊣⊢ _
  rw [hu]
  have e1 := pointsTo_union (ℓ := kM.view.loc (c : Thread nD τ)) (q := fullShare) (f := f) (Ix := Unit) (Name := ℕ) (U := UU) (Lvl := ℕ) h1
  have e2 := pointsTo_union (ℓ := kM.view.loc (c : Thread nD τ)) (q := fullShare) (f := f) (Ix := Unit) (Name := ℕ) (U := UU) (Lvl := ℕ) h2
  exact ⟨e2.1.trans (sep_mono_right e1.1), (sep_mono_right e1.2).trans e2.2⟩
omit [FloatOps F] in
/-- And the whole value scratch. -/
theorem v_split (c : Dev nD) (f : KV F) :
    ((c : Thread nD τ).loc cc0_scratch1 ↦{fullShare} f : sProp 𝕄) ⊣⊢ iprop(vPts c rOwn fullShare f ∗ vPts c rL fullShare f ∗ vPts c rR fullShare f) := by
  have hu : (Finset.univ : Finset (Idx ((c : Thread nD τ).loc cc0_scratch1))) = vM.view.setOn rOwn.set ∪ (vM.view.setOn rL.set ∪ vM.view.setOn rR.set) := by
    refine Finset.ext fun i => ⟨fun _ => ?_, fun _ => Finset.mem_univ i⟩
    rw [Finset.mem_union, Finset.mem_union]
    exact (cover i).imp (Finset.mem_map_of_mem vM.view.emb) (Or.imp (Finset.mem_map_of_mem vM.view.emb) (Finset.mem_map_of_mem vM.view.emb))
  have h1 : Disjoint (vM.view.setOn rL.set) (vM.view.setOn rR.set) := (Finset.disjoint_map _).2 l_r
  have h2 : Disjoint (vM.view.setOn rOwn.set) (vM.view.setOn rL.set ∪ vM.view.setOn rR.set) :=
    Finset.disjoint_union_right.2 ⟨(Finset.disjoint_map _).2 (Finset.disjoint_union_right.1 own_lr).1, (Finset.disjoint_map _).2 (Finset.disjoint_union_right.1 own_lr).2⟩
  show ((c : Thread nD τ).loc cc0_scratch1 ↦[Finset.univ]{fullShare} f : sProp 𝕄) ⊣⊢ _
  rw [hu]
  have e1 := pointsTo_union (ℓ := vM.view.loc (c : Thread nD τ)) (q := fullShare) (f := f) (Ix := Unit) (Name := ℕ) (U := UU) (Lvl := ℕ) h1
  have e2 := pointsTo_union (ℓ := vM.view.loc (c : Thread nD τ)) (q := fullShare) (f := f) (Ix := Unit) (Name := ℕ) (U := UU) (Lvl := ℕ) h2
  exact ⟨e2.1.trans (sep_mono_right e1.1), (sep_mono_right e1.2).trans e2.2⟩

omit [FloatOps F] in
/-- A device's own key columns: half a share kept, and of the other half the low and the high columns. -/
theorem k_lend (c : Dev nD) (f : KV F) :
    (kPts c rOwn fullShare f : sProp 𝕄) ⊣⊢ iprop(kPts c rOwn fullShare.left f ∗ kPts c rLo fullShare.right f ∗ kPts c rHi fullShare.right f) := by
  have hu : kM.view.setOn rOwn.set = kM.view.setOn rLo.set ∪ kM.view.setOn rHi.set := by
    unfold View.setOn; rw [← Finset.map_union, own_eq]
  have h1 : Disjoint (kM.view.setOn rLo.set) (kM.view.setOn rHi.set) := (Finset.disjoint_map _).2 lo_hi
  have e1 := pointsTo_union (ℓ := kM.view.loc (c : Thread nD τ)) (q := fullShare.right) (f := f) (Ix := Unit) (Name := ℕ) (U := UU) (Lvl := ℕ) h1
  rw [← hu] at e1
  have e2 := pointsTo_share (ℓ := kM.view.loc (c : Thread nD τ)) (I := kM.view.setOn rOwn.set) (f := f) (Ix := Unit) (Name := ℕ) (U := UU) (Lvl := ℕ)
    (PosShare.mem_left_op_right fullShare)
  exact ⟨e2.1.trans (sep_mono_right e1.1), (sep_mono_right e1.2).trans e2.2⟩
omit [FloatOps F] in
/-- And its own value columns. -/
theorem v_lend (c : Dev nD) (f : KV F) :
    (vPts c rOwn fullShare f : sProp 𝕄) ⊣⊢ iprop(vPts c rOwn fullShare.left f ∗ vPts c rLo fullShare.right f ∗ vPts c rHi fullShare.right f) := by
  have hu : vM.view.setOn rOwn.set = vM.view.setOn rLo.set ∪ vM.view.setOn rHi.set := by
    unfold View.setOn; rw [← Finset.map_union, own_eq]
  have h1 : Disjoint (vM.view.setOn rLo.set) (vM.view.setOn rHi.set) := (Finset.disjoint_map _).2 lo_hi
  have e1 := pointsTo_union (ℓ := vM.view.loc (c : Thread nD τ)) (q := fullShare.right) (f := f) (Ix := Unit) (Name := ℕ) (U := UU) (Lvl := ℕ) h1
  rw [← hu] at e1
  have e2 := pointsTo_share (ℓ := vM.view.loc (c : Thread nD τ)) (I := vM.view.setOn rOwn.set) (f := f) (Ix := Unit) (Name := ℕ) (U := UU) (Lvl := ℕ)
    (PosShare.mem_left_op_right fullShare)
  exact ⟨e2.1.trans (sep_mono_right e1.1), (sep_mono_right e1.2).trans e2.2⟩

/-! ## Copies -/

/-- What copy `k` reads. -/
def srcM (k : Fin 4) : Memref sig .tc .vmem S2x4x64x128 .bf16 :=
  match k with
  | 0 => kM.slice rHi (fun _ => rfl)
  | 1 => vM.slice rHi (fun _ => rfl)
  | 2 => kM.slice rLo (fun _ => rfl)
  | 3 => vM.slice rLo (fun _ => rfl)
/-- Where it lands. -/
def dstM (k : Fin 4) : Memref sig .tc .vmem S2x4x64x128 .bf16 :=
  match k with
  | 0 => kM.slice rL (fun _ => rfl)
  | 1 => vM.slice rL (fun _ => rfl)
  | 2 => kM.slice rR (fun _ => rfl)
  | 3 => vM.slice rR (fun _ => rfl)

omit [FloatOps F] in
theorem kPts_slice (c : Dev nD) (r : Rect S2x4x64x512) (h) (q : PosShare TreeShare) (f : KV F) :
    (kPts c r q f : sProp 𝕄) = ((kM.slice r h).view.loc (c : Thread nD τ) ↦[(kM.slice r h).view.set]{q} f) := by
  unfold kPts; rw [show (kM.slice r h).view.set = kM.view.setOn r.set from View.set_slice _ r]
omit [FloatOps F] in
theorem vPts_slice (c : Dev nD) (r : Rect S2x4x64x512) (h) (q : PosShare TreeShare) (f : KV F) :
    (vPts c r q f : sProp 𝕄) = ((vM.slice r h).view.loc (c : Thread nD τ) ↦[(vM.slice r h).view.set]{q} f) := by
  unfold vPts; rw [show (vM.slice r h).view.set = vM.view.setOn r.set from View.set_slice _ r]

/-- A copy of key columns lands as the receiver's full contents when these agree with the sender's there. -/
theorem k_landed (p : Dev nD) {o₁ o₂ : Fin 4 → ℕ} {i₁ i₂} (fs fd g : KV F)
    (h : ∀ j : S2x4x64x128.Idx, fs ((Rect.unit (s := S2x4x64x512) o₁ S2x4x64x128.size i₁).emb j) = g ((Rect.unit (s := S2x4x64x512) o₂ S2x4x64x128.size i₂).emb j)) :
    (kPts p (Rect.unit (s := S2x4x64x512) o₂ S2x4x64x128.size i₂) fullShare
      ((kM.slice (Rect.unit (s := S2x4x64x512) o₂ S2x4x64x128.size i₂) (fun _ => rfl)).view.write (Elt F) fd
        ((kM.slice (Rect.unit (s := S2x4x64x512) o₁ S2x4x64x128.size i₁) (fun _ => rfl)).view.read (Elt F) fs) Finset.univ) : sProp 𝕄)
      = kPts p (Rect.unit (s := S2x4x64x512) o₂ S2x4x64x128.size i₂) fullShare g :=
  kPts_congr _ _ _ _ _ fun j => (View.write_emb_of_mem _ _ (Finset.mem_univ j)).trans (h j)
/-- And of value columns. -/
theorem v_landed (p : Dev nD) {o₁ o₂ : Fin 4 → ℕ} {i₁ i₂} (fs fd g : KV F)
    (h : ∀ j : S2x4x64x128.Idx, fs ((Rect.unit (s := S2x4x64x512) o₁ S2x4x64x128.size i₁).emb j) = g ((Rect.unit (s := S2x4x64x512) o₂ S2x4x64x128.size i₂).emb j)) :
    (vPts p (Rect.unit (s := S2x4x64x512) o₂ S2x4x64x128.size i₂) fullShare
      ((vM.slice (Rect.unit (s := S2x4x64x512) o₂ S2x4x64x128.size i₂) (fun _ => rfl)).view.write (Elt F) fd
        ((vM.slice (Rect.unit (s := S2x4x64x512) o₁ S2x4x64x128.size i₁) (fun _ => rfl)).view.read (Elt F) fs) Finset.univ) : sProp 𝕄)
      = vPts p (Rect.unit (s := S2x4x64x512) o₂ S2x4x64x128.size i₂) fullShare g :=
  vPts_congr _ _ _ _ _ fun j => (View.write_emb_of_mem _ _ (Finset.mem_univ j)).trans (h j)

/-- The contents copy `k` reads. -/
def srcF (k : Fin 4) (c : Dev nD) : Buf (Elt F) ((srcM k).view.loc (c : Thread nD τ)) :=
  match k with
  | 0 => KF X2 c
  | 1 => VF X3 c
  | 2 => KF X2 c
  | 3 => VF X3 c

/-- The scratch copy `k` reads, as the device holds it. -/
theorem src_pts (k : Fin 4) (c : Dev nD) :
    (sndPay X2 X3 k c : sProp 𝕄) = ((srcM k).view.loc (c : Thread nD τ) ↦[(srcM k).view.set]{fullShare.right}
      (srcF X2 X3 k c)) := by
  match k with
  | 0 => exact kPts_slice c rHi (fun _ => rfl) _ _
  | 1 => exact vPts_slice c rHi (fun _ => rfl) _ _
  | 2 => exact kPts_slice c rLo (fun _ => rfl) _ _
  | 3 => exact vPts_slice c rLo (fun _ => rfl) _ _

/-- What a copy leaves its sender with: a promise of its share back, or the share if there was no copy. -/
def lent (k : Fin 4) (c : Dev nD) : sProp 𝕄 := if Snd k c then cred (tallyAt (sndCell k c) () N) else sndPay X2 X3 k c
/-- What a receiver has before it waits: a promise of the columns, or the columns if no copy is to come. -/
def awaited (k : Fin 4) (c : Dev nD) : sProp 𝕄 := if Rcv k c then cred (tallyAt (rcvCell k c) () N) else rcvPay X2 X3 k c

/-- Where copy `k` lands on its peer, as the peer held it, and what landing leaves. -/
theorem dst_pts (k : Fin 4) (d : Dev nD) (f : KV F) :
    ∃ f' : Buf (Elt F) ((dstM k).view.loc (d : Thread nD τ)),
      (slot k d f : sProp 𝕄) = ((dstM k).view.loc (d : Thread nD τ) ↦[(dstM k).view.set]{fullShare} f') := by
  match k with
  | 0 => exact ⟨f, kPts_slice d rL (fun _ => rfl) _ _⟩
  | 1 => exact ⟨f, vPts_slice d rL (fun _ => rfl) _ _⟩
  | 2 => exact ⟨f, kPts_slice d rR (fun _ => rfl) _ _⟩
  | 3 => exact ⟨f, vPts_slice d rR (fun _ => rfl) _ _⟩

/-- A sent copy leaves at its target what the target's wait takes. -/
theorem landed (k : Fin 4) (c : Dev nD) (h : Snd k c) (fd : Buf (Elt F) ((dstM k).view.loc (peer k c : Thread nD τ))) :
    ((dstM k).view.loc (peer k c : Thread nD τ) ↦[(dstM k).view.set]{fullShare} ((dstM k).view.write (Elt F) fd ((srcM k).view.read (Elt F)
        (srcF X2 X3 k c)) Finset.univ) : sProp 𝕄)
      = rcvPay X2 X3 k (peer k c) := by
  match k with
  | 0 => exact (kPts_slice _ rL (fun _ => rfl) _ _).symm.trans (k_landed (rgt c) _ _ _ (full_sent_right (fun c => k0_pay2 (X2 c)) k0_pay5 k0_pay7 c h))
  | 1 => exact (vPts_slice _ rL (fun _ => rfl) _ _).symm.trans (v_landed (rgt c) _ _ _ (full_sent_right (fun c => k0_pay3 (X3 c)) k0_pay6 k0_pay8 c h))
  | 2 => exact (kPts_slice _ rR (fun _ => rfl) _ _).symm.trans (k_landed (lft c) _ _ _ (full_sent_left (fun c => k0_pay2 (X2 c)) k0_pay5 k0_pay7 c h))
  | 3 => exact (vPts_slice _ rR (fun _ => rfl) _ _).symm.trans (v_landed (lft c) _ _ _ (full_sent_left (fun c => k0_pay3 (X3 c)) k0_pay6 k0_pay8 c h))

/-- A copy counts the same at its target. -/
theorem dst_amount (k : Fin 4) : (dstM k).view.amount (.dma (rcvS k)) = N := by
  match k with
  | 0 | 1 | 2 | 3 => rfl

/-- A sent copy comes in at its target. -/
theorem rcv_peer {k : Fin 4} {c : Dev nD} (h : Snd k c) : Rcv k (peer k c) := by
  match k with
  | 0 | 1 => exact hasL_rgt h
  | 2 | 3 => exact hasR_lft h

/-- A copy that was sent is owed to the device as credit for its send wait; -/
theorem lent_pos {k : Fin 4} {c : Dev nD} (h : Snd k c) : (lent X2 X3 k c : sProp 𝕄) = cred (tallyAt (sndCell k c) () N) := if_pos h
/-- where none is sent, the columns never left. -/
theorem lent_neg {k : Fin 4} {c : Dev nD} (h : ¬ Snd k c) : (lent X2 X3 k c : sProp 𝕄) = sndPay X2 X3 k c := if_neg h

/-- What a device needs for copy `k`. -/
def toSend (k : Fin 4) (c : Dev nD) : sProp 𝕄 :=
  iprop(grant k c ∗ dutyTok ER (sndCell k c) 0 false ∗ reached ER (sndCell k c) 0 ∗ dutyTok ER (rcvCell k (peer k c)) 0 false)

/-- Copy `k`, made when the neighbour is there: the device lends its columns and no longer owes the copy. -/
theorem wp_sendIf (K : GSem nD τ sig → ℕ) (c : Dev nD) (k : Fin 4) (O : CellTallies nD τ sig Unit) {P : Prop} [Decidable P] (hP : P ↔ Snd k c)
    {src dst : Memref sig .tc .vmem S2x4x64x128 .bf16} (hs : src = srcM k) (hd : dst = dstM k) {sS rS : DmaSem sig} (hsS : sS = sndS k) (hrS : rS = rcvS k)
    {p : P → Dev nD} (hp : ∀ h, p h = peer k c) {hsc : P → dst.view.ref.isScScratch = false} {hsrc : P → src.view.WordExact} {hdst : P → dst.view.WordExact}
    {hsem : ∀ h : P, DmaTarget.Typed .vmem (.dma rS) (.remote (Dev.tc (p h) : Thread nD τ) dst (.dma sS) (hsc h))} {α : Type} {rest : Prog (TpuEff nD τ sig (Elt F) Λ₀ .tc) α} {Q : α → sProp 𝕄} :
    iprop((records X2 X3 K ∗ sndPay X2 X3 k c ∗ toSend k c ∗ ∃ W, owes (c : Thread nD τ) (O + debt k c) W)
        ∗ ((lent X2 X3 k c ∗ ∃ W, owes (c : Thread nD τ) O W) -∗ wp frame (wpE (defs₀ (F := F)) 𝒱₀ c none) Set.univ rest Q))
      ⊢ wp frame (wpE (defs₀ (F := F)) 𝒱₀ c none) Set.univ
          (if h : P then (.op (.enqueueDma src (.remote (Dev.tc (p h) : Thread nD τ) dst (.dma sS) (hsc h)) (.dma rS) (hsrc h) (hdst h) (hsem h)) fun _ => rest)
            else rest) Q := by
  subst hs hd hsS hrS
  refine wp_guard c _ _ _ (fun h => ?_) (fun h => wp_skip _ _ _ ?_)
  · have hS := hP.1 h
    generalize hsc h = hsc, hsrc h = hsrc, hdst h = hdst, hsem h = hsem
    rw [lent_pos X2 X3 hS, src_pts]
    have hp := hp h
    revert hsc hsem
    generalize p h = p at hp
    subst hp
    intro hsc hsem
    unfold toSend
    rw [grant_pos hS]
    iintro ⟨⟨#HI, Hs, ⟨⟨⟨%f, Hf⟩, #Hr⟩, Ht, #Hrs, Ht'⟩, %W, HO⟩, Hk⟩
    obtain ⟨f', hf'⟩ := dst_pts (F := F) k (peer k c) f
    ihave Hf := (Entails.of_eq hf') $$ Hf
    iapply (Rounds.wp_send_pointsTo 𝒱₀ ER (haloRd X2 X3) (c : Thread nD τ) none (κ₁ := K (sndCell k c)) (κ₂ := K (rcvCell k (peer k c)))
      (r₁ := 0) (r₂ := 0) (d₁ := false) (d₂ := false) (fd := f')
      (by rw [duties_snd X2 X3 c k hS]; exact Finset.mem_singleton_self _)
      (by rw [duties_rcv X2 X3 (peer k c) k (rcv_peer hS)]; exact Finset.mem_singleton_self _)
      () () N (dst_amount k) (amount_snd X2 X3 c k false) (amount_rcv X2 X3 (peer k c) k false) (O₀ := O + debt k c) O (by unfold debt; rw [if_pos hS]) (W := W)
      (by rw [payload_snd, src_pts]) (by rw [payload_rcv, landed X2 X3 k c hS])) $$ [Hs Hf HO Ht Ht']
    · isplitr; · iapply (inv_at X2 X3 K (snd_mem k c)); iexact HI
      isplitr; · iapply (inv_at X2 X3 K (rcv_mem k (peer k c))); iexact HI
      isplitl [Hs]; · iexact Hs
      isplitl [Hf]; · iexact Hf
      isplitl [HO]; · iexact HO
      isplitl [Ht]; · iexact Ht
      isplitr; · iexact Hrs
      isplitl [Ht']; · iexact Ht'
      iexact Hr
    iintro ⟨Hc, HO⟩
    iapply Hk
    isplitl [Hc]; · iexact Hc
    iexists W; iexact HO
  · have hS : ¬ Snd k c := fun h' => h (hP.2 h')
    rw [lent_neg X2 X3 hS, show debt k c = 0 from if_neg hS, add_zero]
    iintro ⟨-, Hs, -, HO⟩
    isplitl [Hs]; · iexact Hs
    iexact HO

/-! ## Waits -/

/-- A cell in use (`U`) has one payment, of `N` units, handing over `Pay`; out of use it has none. -/
structure Good (g : GSem nD τ sig) (U : Prop) (Pay : sProp 𝕄) : Prop where
  expect : U → (haloRd (F := F) X2 X3).expect g 0 = N
  rest : U → bigSep ((haloRd (F := F) X2 X3).duties g 0 \ ∅) (fun d => (haloRd (F := F) X2 X3).payload g 0 d) = Pay
  no : ¬ U → (haloRd (F := F) X2 X3).duties g 0 = ∅

/-- The send semaphores keep to the rules, -/
theorem good_snd (k : Fin 4) (c : Dev nD) : Good X2 X3 (sndCell k c) (Snd k c) (sndPay X2 X3 k c) :=
  ⟨expect_snd X2 X3 c k, rest_snd X2 X3 c k, duties_snd_not X2 X3 c k⟩
/-- and so do the receive semaphores. -/
theorem good_rcv (k : Fin 4) (c : Dev nD) : Good X2 X3 (rcvCell k c) (Rcv k c) (rcvPay X2 X3 k c) :=
  ⟨expect_rcv X2 X3 c k, rest_rcv X2 X3 c k, duties_rcv_not X2 X3 c k⟩

/-- What a device has before a wait on a DMA cell: a promise of the payment, or the payment's contents if the cell is not in use. -/
def before (g : GSem nD τ sig) (U : Prop) [Decidable U] (Pay : sProp 𝕄) : sProp 𝕄 := if U then cred (tallyAt g () N) else Pay

/-- One wait on a DMA cell in use, nothing being owed. -/
theorem wp_wait_op (K : GSem nD τ sig → ℕ) (c : Dev nD) (q : DmaSem sig) (U : Prop) (Pay : sProp 𝕄) (hU : U)
    (hg : Good X2 X3 ((c : Thread nD τ), .dma q) U Pay) (hm : ((c : Thread nD τ), SemLoc.dma q) ∈ (barCells ∪ scCells : Finset (GSem nD τ sig)))
    {src dst : Memref sig .tc .vmem S2x4x64x128 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records X2 X3 K ∗ cred (tallyAt ((c : Thread nD τ), SemLoc.dma q) () N) ∗ atPos ER ((c : Thread nD τ), .dma q) 0 ∅ 0 ∗ ∃ W, owes (c : Thread nD τ) 0 W)
      ⊢ iprop(((Pay ∗ done X2 X3 ((c : Thread nD τ), .dma q) ∗ ∃ W, owes (c : Thread nD τ) 0 W)
            -∗ wp frame (wpE (defs₀ (F := F)) 𝒱₀ c none) Set.univ (kk ⟨⟩) Q)
          -∗ wp frame (wpE (defs₀ (F := F)) 𝒱₀ c none) Set.univ (.op (.waitDma2 q src dst hsrc hdst) kk) Q) := by
  iintro ⟨#HI, Hc, Hat, %W, HO⟩ Hk
  iapply (Rounds.wp_wait_rest_token 𝒱₀ ER (haloRd X2 X3) (c : Thread nD τ) none (κ := K ((c : Thread nD τ), .dma q))
      (wpE_waitDma2_eq 𝒱₀ (c : Thread nD τ) none Set.univ) (Set.mem_univ _) () (O := 0) (W := W) (R := 0) (m := 0) (T := ∅)
      (by rw [Nat.zero_add, hN, hg.expect hU])) $$ [Hc HO Hat]
  · isplitr; · iapply (inv_at X2 X3 K hm); iexact HI
    isplitl [Hc]; · iexact Hc
    isplitl [HO]; · iexact HO
    isplitr; · rw [MayWait_zero]; iempintro
    iexact Hat
  iintro ⟨HO, Hat, -, Hpay⟩
  ihave Hpay := (Entails.of_eq (hg.rest hU)) $$ Hpay
  iapply Hk
  isplitl [Hpay]; · iexact Hpay
  isplitl [Hat]
  · unfold done
    iexists 1
    isplitr
    · ipureintro; exact duties_later X2 X3 _
    · iexact Hat
  iexists _; iexact HO

/-- A pair of waits, made when their cells are in use: either way the device ends with both payments' contents. -/
theorem wp_waitIf (K : GSem nD τ sig → ℕ) (c : Dev nD) (q₁ q₂ : DmaSem sig) (U : Prop) [Decidable U] (Pay₁ Pay₂ : sProp 𝕄)
    (h₁ : Good X2 X3 ((c : Thread nD τ), .dma q₁) U Pay₁) (h₂ : Good X2 X3 ((c : Thread nD τ), .dma q₂) U Pay₂)
    (m₁ : ((c : Thread nD τ), SemLoc.dma q₁) ∈ (barCells ∪ scCells : Finset (GSem nD τ sig))) (m₂ : ((c : Thread nD τ), SemLoc.dma q₂) ∈ (barCells ∪ scCells : Finset (GSem nD τ sig)))
    {P : Prop} [Decidable P] (hP : P ↔ U) {s₁ s₂ : DmaSem sig} (hs₁ : s₁ = q₁) (hs₂ : s₂ = q₂)
    {src₁ dst₁ src₂ dst₂ : Memref sig .tc .vmem S2x4x64x128 .bf16} {a₁ : P → src₁.view.WordExact} {b₁ : P → dst₁.view.WordExact} {a₂ : P → src₂.view.WordExact} {b₂ : P → dst₂.view.WordExact}
    (hN₁ : dst₁.view.dmaCredit = N) (hN₂ : dst₂.view.dmaCredit = N) {α : Type} {rest : Prog (TpuEff nD τ sig (Elt F) Λ₀ .tc) α} {Q : α → sProp 𝕄} :
    iprop((records X2 X3 K ∗ before ((c : Thread nD τ), .dma q₁) U Pay₁ ∗ before ((c : Thread nD τ), .dma q₂) U Pay₂
          ∗ atPos ER ((c : Thread nD τ), .dma q₁) 0 ∅ 0 ∗ atPos ER ((c : Thread nD τ), .dma q₂) 0 ∅ 0 ∗ ∃ W, owes (c : Thread nD τ) 0 W)
        ∗ ((Pay₁ ∗ Pay₂ ∗ done X2 X3 ((c : Thread nD τ), .dma q₁) ∗ done X2 X3 ((c : Thread nD τ), .dma q₂) ∗ ∃ W, owes (c : Thread nD τ) 0 W) -∗ wp frame (wpE (defs₀ (F := F)) 𝒱₀ c none) Set.univ rest Q))
      ⊢ wp frame (wpE (defs₀ (F := F)) 𝒱₀ c none) Set.univ
          (if h : P then (.op (.waitDma2 s₁ src₁ dst₁ (a₁ h) (b₁ h)) fun _ => .op (.waitDma2 s₂ src₂ dst₂ (a₂ h) (b₂ h)) fun _ => rest) else rest) Q := by
  subst hs₁ hs₂
  refine wp_guard c _ _ _ (fun h => ?_) (fun h => wp_skip _ _ _ ?_)
  · have hU := hP.1 h
    rw [show before ((c : Thread nD τ), SemLoc.dma s₁) U Pay₁ = _ from if_pos hU, show before ((c : Thread nD τ), SemLoc.dma s₂) U Pay₂ = _ from if_pos hU]
    iintro ⟨⟨#HI, Hc1, Hc2, Hat1, Hat2, HO⟩, Hk⟩
    iapply (wp_wait_op X2 X3 K c s₁ U Pay₁ hU h₁ m₁ hN₁) $$ [Hc1 Hat1 HO]
    · isplitr; · iexact HI
      isplitl [Hc1]; · iexact Hc1
      isplitl [Hat1]; · iexact Hat1
      iexact HO
    iintro ⟨Hp1, Hd1, HO⟩
    iapply (wp_wait_op X2 X3 K c s₂ U Pay₂ hU h₂ m₂ hN₂) $$ [Hc2 Hat2 HO]
    · isplitr; · iexact HI
      isplitl [Hc2]; · iexact Hc2
      isplitl [Hat2]; · iexact Hat2
      iexact HO
    iintro ⟨Hp2, Hd2, HO⟩
    iapply Hk
    isplitl [Hp1]; · iexact Hp1
    isplitl [Hp2]; · iexact Hp2
    isplitl [Hd1]; · iexact Hd1
    isplitl [Hd2]; · iexact Hd2
    iexact HO
  · have hU : ¬ U := fun h' => h (hP.2 h')
    rw [show before ((c : Thread nD τ), SemLoc.dma s₁) U Pay₁ = _ from if_neg hU, show before ((c : Thread nD τ), SemLoc.dma s₂) U Pay₂ = _ from if_neg hU]
    have hd : ∀ q : DmaSem sig, (haloRd (F := F) X2 X3).duties ((c : Thread nD τ), .dma q) 0 = ∅ →
        ∀ r, 0 ≤ r → (haloRd (F := F) X2 X3).duties ((c : Thread nD τ), .dma q) r = ∅ := fun q h0 r _ => by
      rcases Nat.eq_zero_or_pos r with rfl | hr
      · exact h0
      · exact duties_later X2 X3 _ r hr
    unfold done
    iintro ⟨-, Hp1, Hp2, Hat1, Hat2, HO⟩
    isplitl [Hp1]; · iexact Hp1
    isplitl [Hp2]; · iexact Hp2
    isplitl [Hat1]
    · iexists 0
      isplitr
      · ipureintro; exact hd s₁ (h₁.no hU)
      · iexact Hat1
    isplitl [Hat2]
    · iexists 0
      isplitr
      · ipureintro; exact hd s₂ (h₂.no hU)
      · iexact Hat2
    iexact HO

/-! ## The edge devices' zero fills -/

/-- What is stored over columns that hold the full contents. -/
theorem k_stored (c : Dev nD) (r : Rect S2x4x64x512) (f g : KV F) (w : Vec F r.shape .bf16) (h : ∀ j, g (r.emb j) = w j) :
    (kPts c r fullShare ((kM.access r).write (Elt F) f w Finset.univ) : sProp 𝕄) = kPts c r fullShare g :=
  kPts_congr _ _ _ _ _ fun j => (View.write_emb_of_mem _ _ (Finset.mem_univ j)).trans (h j).symm
/-- A store of known words into part of a scratch. -/
theorem v_stored (c : Dev nD) (r : Rect S2x4x64x512) (f g : KV F) (w : Vec F r.shape .bf16) (h : ∀ j, g (r.emb j) = w j) :
    (vPts c r fullShare ((vM.access r).write (Elt F) f w Finset.univ) : sProp 𝕄) = vPts c r fullShare g :=
  vPts_congr _ _ _ _ _ fun j => (View.write_emb_of_mem _ _ (Finset.mem_univ j)).trans (h j).symm

/-- Stores over a halo's key and value columns, made when no neighbour will fill them. -/
theorem wp_fillIf (c : Dev nD) (r : Rect S2x4x64x512) (k k' : Fin 4) (wk wv : Vec F r.shape .bf16)
    (hk : ∀ f, slot (F := F) k c f = kPts c r fullShare f) (hk' : ∀ f, slot (F := F) k' c f = vPts c r fullShare f)
    (hw : ¬ Rcv k c → ∀ j, XF X2 X3 k c (r.emb j) = wk j) (hw' : ¬ Rcv k' c → ∀ j, XF X2 X3 k' c (r.emb j) = wv j)
    {P : Prop} [Decidable P] (hP : P ↔ ¬ Rcv k c) (hP' : Rcv k c ↔ Rcv k' c) {l₁ : P → kM.view.LoadsAt r.toLoadRect} {l₂ : P → vM.view.LoadsAt r.toLoadRect}
    {s₁ : P → (kM.access r).Stores Finset.univ} {s₂ : P → (vM.access r).Stores Finset.univ} {m₁ m₂ : P → (Finset.univ = (Finset.univ : Finset r.shape.Idx) ∨ ∀ a, r.stride a = 1)}
    {α : Type} {rest : Prog (TpuEff nD τ sig (Elt F) Λ₀ .tc) α} {Q : α → sProp 𝕄} :
    iprop((kept k c ∗ kept k' c) ∗ ((filled X2 X3 k c ∗ filled X2 X3 k' c) -∗ wp frame (wpE (defs₀ (F := F)) 𝒱₀ c none) Set.univ rest Q))
      ⊢ wp frame (wpE (defs₀ (F := F)) 𝒱₀ c none) Set.univ
          (if h : P then (.op (.load kM r.toLoadRect (l₁ h)) fun _ => .op (.store kM r wk Finset.univ (s₁ h) (m₁ h)) fun _ =>
            .op (.load vM r.toLoadRect (l₂ h)) fun _ => .op (.store vM r wv Finset.univ (s₂ h) (m₂ h)) fun _ => rest) else rest) Q := by
  refine wp_guard c _ _ _ (fun h => ?_) (fun h => wp_skip _ _ _ ?_)
  · have hU := hP.1 h
    have hU' : ¬ Rcv k' c := fun h' => hU (hP'.2 h')
    rw [kept_neg hU, kept_neg hU', filled_neg X2 X3 hU, filled_neg X2 X3 hU']
    iintro ⟨⟨⟨%f, Hf⟩, %g, Hg⟩, Hk⟩
    ihave Hf := (Entails.of_eq (hk f)) $$ Hf
    ihave Hg := (Entails.of_eq (hk' g)) $$ Hg
    iapply (wp_load 𝒱₀ (c : Thread nD τ) none Set.univ (m := kM) (r := r.toLoadRect) (S := kM.view.setOn r.set) (Finset.Subset.refl _)) $$ Hf
    iintro Hf
    iapply (wp_store 𝒱₀ (c : Thread nD τ) none Set.univ (m := kM) (r := r) (S := kM.view.setOn r.set) (le_of_eq (View.set_slice kM.view r))) $$ Hf
    iintro Hf
    iapply (wp_load 𝒱₀ (c : Thread nD τ) none Set.univ (m := vM) (r := r.toLoadRect) (S := vM.view.setOn r.set) (Finset.Subset.refl _)) $$ Hg
    iintro Hg
    iapply (wp_store 𝒱₀ (c : Thread nD τ) none Set.univ (m := vM) (r := r) (S := vM.view.setOn r.set) (le_of_eq (View.set_slice vM.view r))) $$ Hg
    iintro Hg
    iapply Hk
    rw [hk, hk']
    isplitl [Hf]
    · iapply (Entails.of_eq (k_stored c r f (XF X2 X3 k c) wk (hw hU))); iexact Hf
    · iapply (Entails.of_eq (v_stored c r g (XF X2 X3 k' c) wv (hw' hU'))); iexact Hg
  · have hU : Rcv k c := not_not.1 fun h' => h (hP.2 h')
    rw [kept_pos hU, kept_pos (hP'.1 hU), filled_pos X2 X3 hU, filled_pos X2 X3 (hP'.1 hU)]

end Cert.KernelIdeal.Halo

end
-- ==== Proof.Start.lean ====
/-
  The first two parts of the body: the barrier with the neighbours, the device's own keys and values stored, the copies to the
  neighbours started, the zero fills of an edge device, and the two weight matrices loaded.
-/
module

public import proofs.«01_k».proof.Proof.Steps

@[expose] public section

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The body's arguments -/

abbrev M0 : Memref sig .tc .vmem S2x256x512 .f32 := Memref.whole cc0_stg0_0
abbrev M1 : Memref sig .tc .vmem S512x256 .f32 := Memref.whole cc0_stg1_0
abbrev M2 : Memref sig .tc .vmem S2x4x64x256 .f32 := Memref.whole cc0_stg2_0
abbrev M3 : Memref sig .tc .vmem S2x4x64x256 .f32 := Memref.whole cc0_stg3_0
abbrev M4 : Memref sig .tc .vmem S256x512 .f32 := Memref.whole cc0_stg4_0
abbrev M5 : Memref sig .tc .vmem S2x256x512 .bf16 := Memref.whole cc0_stg5_0
abbrev qM : Memref sig .tc .vmem S2x256x256 .bf16 := Memref.whole cc0_scratch2
abbrev wM : Memref sig .tc .vmem S256x512 .bf16 := Memref.whole cc0_scratch3

/-- A whole buffer of device `c`. -/
abbrev buf (c : Dev nD) (b : Ref sig .tc) (f : Buf (Elt F) ((c : Thread nD τ).loc b)) : sProp 𝕄 := ((c : Thread nD τ).loc b) ↦{fullShare} f

/-- Four zeros are the zero offset, -/
theorem hz4 : (![0, 0, 0, 0] : Fin 4 → Nat) = fun _ => 0 := funext fun a => by fin_cases a <;> rfl
/-- and so are two. -/
theorem hz2 : (![0, 0] : Fin 2 → Nat) = fun _ => 0 := funext fun a => by fin_cases a <;> rfl

/-- The barrier the kernel asks for is the one barrier. -/
theorem bar_scalar : (SemArray.scalar (sig.barrier 0 rfl) : Sems sig S_).sem = barS := rfl

variable (X2 X3 : Dev nD → Vec F S2x4x64x256 .f32)

omit [FloatOps F] in
theorem read2 (f : Vec F S2x4x64x256 .f32) : M2.view.readAt (Elt F) (Rect.unit (s := S2x4x64x256) ![0, 0, 0, 0] S2x4x64x256.size inb_S2x4x64x256_S2x4x64x256_0_0_0_0).toLoadRect f = f :=
  Memref.readAt_unit_zero (Elt F) cc0_stg2_0 hz4 _ f
omit [FloatOps F] in
theorem read3 (f : Vec F S2x4x64x256 .f32) : M3.view.readAt (Elt F) (Rect.unit (s := S2x4x64x256) ![0, 0, 0, 0] S2x4x64x256.size inb_S2x4x64x256_S2x4x64x256_0_0_0_0).toLoadRect f = f :=
  Memref.readAt_unit_zero (Elt F) cc0_stg3_0 hz4 _ f

/-- What the first part starts from. -/
def pre1 (c : Dev nD) : sProp 𝕄 :=
  iprop((∃ W, owes (c : Thread nD τ) (O₀ c) W) ∗ dutyTok ER (barCell (tgt1 c)) 0 (d1 c) ∗ dutyTok ER (barCell (tgt2 c)) 0 (d2 c)
    ∗ ((∃ f, slot 0 c f) ∗ (∃ f, slot 1 c f) ∗ reached ER (rcvCell 0 c) 0 ∗ reached ER (rcvCell 1 c) 0)
    ∗ ((∃ f, slot 2 c f) ∗ (∃ f, slot 3 c f) ∗ reached ER (rcvCell 2 c) 0 ∗ reached ER (rcvCell 3 c) 0)
    ∗ cred (tallyAt (barCell c) () 2) ∗ atPos ER (barCell c) 0 ∅ 0 ∗ (∃ f, kPts c rOwn fullShare f)
    ∗ buf c cc0_stg2_0 (X2 c) ∗ buf c cc0_stg3_0 (X3 c)
    ∗ (dutyTok ER (sndCell 0 c) 0 false ∗ reached ER (sndCell 0 c) 0 ∗ dutyTok ER (rcvCell 0 (peer 0 c)) 0 false)
    ∗ (dutyTok ER (sndCell 2 c) 0 false ∗ reached ER (sndCell 2 c) 0 ∗ dutyTok ER (rcvCell 2 (peer 2 c)) 0 false))
/-- What it ends with. -/
def post1 (c : Dev nD) : sProp 𝕄 :=
  iprop((∃ W, owes (c : Thread nD τ) (debt 3 c + debt 1 c) W) ∗ kept 0 c ∗ kept 1 c ∗ kept 2 c ∗ kept 3 c ∗ grant 1 c ∗ grant 3 c
    ∗ done X2 X3 (barCell c) ∗ kPts c rOwn fullShare.left (KF X2 c) ∗ lent X2 X3 0 c ∗ lent X2 X3 2 c ∗ buf c cc0_stg2_0 (X2 c) ∗ buf c cc0_stg3_0 (X3 c))

set_option maxHeartbeats 1000000 in
/-- The first part. -/
theorem run1 (K : GSem nD τ sig → ℕ) (c : Dev nD) {h0 : M0.IsWhole} {h1 : M1.IsWhole} {h2 : M2.IsWhole} {h3 : M3.IsWhole} {h4 : M4.IsWhole} {h5 : M5.IsWhole}
    {h6 : kM.IsWhole} {h7 : vM.IsWhole} {h8 : qM.IsWhole} {h9 : wM.IsWhole}
    {Q : (Σ' (_ : Dev nD) (_ : BitVec 32) (_ : BitVec 1) (_ : BitVec 1), Vec F S2x4x64x256 .f32) → sProp 𝕄} :
    iprop(records X2 X3 K ∗ levAts L lv ∗ pre1 X2 X3 c ∗ (post1 X2 X3 c -∗ Q ⟨c, myId c, bitL c, bitR c, X3 c⟩))
      ⊢ wp frame (wpE (defs₀ (F := F)) 𝒱₀ c none) Set.univ (k0_part1 M0 h0 M1 h1 M2 h2 M3 h3 M4 h4 M5 h5 kM h6 vM h7 qM h8 wM h9 cc0_scratch4 cc0_scratch5) Q := by
  simp only [k0_part1_eq_skeleton]; unfold k0_part1_skel
  simp only [semSignalWord, semWaitWord, Prog.lift, Prog.bind_op, Prog.bind_ret, Prog.pure_eq_ret, Prog.bind_assoc, wp_deviceId]
  simp only [dev1_eq c, dev2_eq c, bar_scalar]
  unfold pre1
  iintro ⟨#HI, #Hlev, ⟨⟨%W, HO⟩, Ht1, Ht2, Hs01, Hs23, HcB, HatB, ⟨%f, Hk⟩, Hx2, Hx3, Hd0, Hd2⟩, HQ⟩
  ihave Hs01 := (pay_first X2 X3 c) $$ Hs01
  icases Hs01 with ⟨Hp1, Hk0, Hk1⟩
  ihave Hs23 := (pay_second X2 X3 c) $$ Hs23
  icases Hs23 with ⟨Hp2, Hk2, Hk3⟩
  unfold O₀
  iapply (Rounds.wp_signal 𝒱₀ ER (haloRd X2 X3) (c : Thread nD τ) none (dst := (tgt1 c : Thread nD τ)) (κ := K (barCell (tgt1 c)))
      (d := d1 c) (by rw [duties_bar]; exact Finset.mem_insert.2 ((Bool.eq_false_or_eq_true (d1 c)).symm.imp id fun h => Finset.mem_singleton.2 h)) ((amount_bar X2 X3 (tgt1 c) (d1 c)).trans (by decide)) ()
      (owesD c + tallyAt (barCell (tgt2 c)) () 1) rfl) $$ [HO Ht1 Hp1]
  · isplitr; · iapply (inv_at X2 X3 K (bar_mem (tgt1 c))); iexact HI
    isplitl [HO]; · iexact HO
    isplitl [Ht1]; · iexact Ht1
    isplitl [Hp1]; · iexact Hp1
    iapply (reached_bar X2 X3 K (tgt1 c)); iexact HI
  iintro HO
  iapply (Rounds.wp_signal 𝒱₀ ER (haloRd X2 X3) (c : Thread nD τ) none (dst := (tgt2 c : Thread nD τ)) (κ := K (barCell (tgt2 c)))
      (d := d2 c) (by rw [duties_bar]; exact Finset.mem_insert.2 ((Bool.eq_false_or_eq_true (d2 c)).symm.imp id fun h => Finset.mem_singleton.2 h)) ((amount_bar X2 X3 (tgt2 c) (d2 c)).trans (by decide)) ()
      (owesD c) rfl) $$ [HO Ht2 Hp2]
  · isplitr; · iapply (inv_at X2 X3 K (bar_mem (tgt2 c))); iexact HI
    isplitl [HO]; · iexact HO
    isplitl [Ht2]; · iexact Ht2
    isplitl [Hp2]; · iexact Hp2
    iapply (reached_bar X2 X3 K (tgt2 c)); iexact HI
  iintro HO
  iapply (Rounds.wp_wait_rest_token 𝒱₀ ER (haloRd X2 X3) (c : Thread nD τ) none (κ := K (barCell c))
      (wpE_semWait_eq 𝒱₀ (c : Thread nD τ) none Set.univ) (Set.mem_univ _) () (O := owesD c) (W := W) (R := 0) (m := 0) (T := ∅)
      (by rw [expect_bar]; decide)) $$ [HcB HO HatB]
  · isplitr; · iapply (inv_at X2 X3 K (bar_mem c)); iexact HI
    isplitl [HcB]; · iexact HcB
    isplitl [HO]; · iexact HO
    isplitr; · iapply (mayWait_bar c); iexact Hlev
    iexact HatB
  iintro ⟨HO, HatB, -, Hpay⟩
  ihave Hpay := (Entails.of_eq (rest_bar X2 X3 c)) $$ Hpay
  unfold grantL grantR
  icases Hpay with ⟨⟨Hg2, Hg3⟩, Hg0, Hg1⟩
  iapply (wp_load 𝒱₀ (c : Thread nD τ) none Set.univ (m := M2) (S := Finset.univ) (Finset.subset_univ _)) $$ Hx2
  iintro Hx2
  rw [read2]
  iapply (wp_load 𝒱₀ (c : Thread nD τ) none Set.univ (m := kM) (r := rOwn.toLoadRect) (S := kM.view.setOn rOwn.set) (Finset.Subset.refl _)) $$ Hk
  iintro Hk
  iapply (wp_store 𝒱₀ (c : Thread nD τ) none Set.univ (m := kM) (r := rOwn) (S := kM.view.setOn rOwn.set) (le_of_eq (View.set_slice kM.view rOwn))) $$ Hk
  iintro Hk
  ihave Hk := (Entails.of_eq (k_stored c rOwn f (KF X2 c) (k0_pay2 (X2 c)) (full_own _ _ _ c))) $$ Hk
  ihave Hk := (k_lend c (KF X2 c)).1 $$ Hk
  icases Hk with ⟨Hk, Hlo, Hhi⟩
  iapply (wp_sendIf X2 X3 K c 0 (debt 3 c + debt 1 c + debt 2 c) (cond1_iff c) (src := kM.slice rHi (fun _ => rfl)) (dst := kM.slice rL (fun _ => rfl)) rfl rfl
    snd_slice0 rcv_slice0 (dev3_eq c))
  isplitl [Hhi Hg0 Hd0 HO]
  · isplitr; · iexact HI
    isplitl [Hhi]; · iapply (Entails.of_eq (show kPts c rHi fullShare.right (KF X2 c) = sndPay X2 X3 0 c from rfl)); iexact Hhi
    isplitl [Hg0 Hd0]
    · unfold toSend
      isplitl [Hg0]; · iexact Hg0
      iexact Hd0
    iexists _; iexact HO
  iintro ⟨Hl0, HO⟩
  iapply (wp_sendIf X2 X3 K c 2 (debt 3 c + debt 1 c) (cond2_iff c) (src := kM.slice rLo (fun _ => rfl)) (dst := kM.slice rR (fun _ => rfl)) rfl rfl
    snd_slice2 rcv_slice2 (dev4_eq c))
  isplitl [Hlo Hg2 Hd2 HO]
  · isplitr; · iexact HI
    isplitl [Hlo]; · iapply (Entails.of_eq (show kPts c rLo fullShare.right (KF X2 c) = sndPay X2 X3 2 c from rfl)); iexact Hlo
    isplitl [Hg2 Hd2]
    · unfold toSend
      isplitl [Hg2]; · iexact Hg2
      iexact Hd2
    iexact HO
  iintro ⟨Hl2, HO⟩
  iapply (wp_load 𝒱₀ (c : Thread nD τ) none Set.univ (m := M3) (S := Finset.univ) (Finset.subset_univ _)) $$ Hx3
  iintro Hx3
  rw [read3, wp_ret]
  imodintro
  iapply HQ
  unfold post1
  isplitl [HO]; · iexact HO
  isplitl [Hk0]; · iexact Hk0
  isplitl [Hk1]; · iexact Hk1
  isplitl [Hk2]; · iexact Hk2
  isplitl [Hk3]; · iexact Hk3
  isplitl [Hg1]; · iexact Hg1
  isplitl [Hg3]; · iexact Hg3
  isplitl [HatB]
  · unfold done
    iexists 1
    isplitr
    · ipureintro; exact duties_later X2 X3 _
    · iexact HatB
  isplitl [Hk]; · iexact Hk
  isplitl [Hl0]; · iexact Hl0
  isplitl [Hl2]; · iexact Hl2
  isplitl [Hx2]; · iexact Hx2
  iexact Hx3

/-! ## The second part -/

omit [FloatOps F] in
theorem read4 (f : Vec F S256x512 .f32) : M4.view.readAt (Elt F) (Rect.unit (s := S256x512) ![0, 0] S256x512.size inb_S256x512_S256x512_0_0).toLoadRect f = f :=
  Memref.readAt_unit_zero (Elt F) cc0_stg4_0 hz2 _ f
omit [FloatOps F] in
theorem read1 (f : Vec F S512x256 .f32) : M1.view.readAt (Elt F) (Rect.unit (s := S512x256) ![0, 0] S512x256.size inb_S512x256_S512x256_0_0).toLoadRect f = f :=
  Memref.readAt_unit_zero (Elt F) cc0_stg1_0 hz2 _ f
omit [FloatOps F] in
theorem writeW (f w : Vec F S256x512 .bf16) : (wM.access (Rect.unit (s := S256x512) ![0, 0] S256x512.size inb_S256x512_S256x512_0_0)).write (Elt F) f w Finset.univ = w :=
  Memref.write_access_unit_zero_univ (Elt F) cc0_scratch3 hz2 _ f w

/-- Row block `b` of the input, as the body loads it. -/
abbrev x0at (b : ℕ) (inb : ∀ i, (![b, 0, 0] : Fin 3 → ℕ) i + S1x256x512.size i ≤ S2x256x512.size i) (x0 : Vec F S2x256x512 .f32) : Vec F S1x256x512 .f32 :=
  M0.view.readAt (Elt F) (Rect.unit (s := S2x256x512) ![b, 0, 0] S1x256x512.size inb).toLoadRect x0

/-- What the second part starts from. -/
def pre2 (c : Dev nD) (x0 : Vec F S2x256x512 .f32) (x1 : Vec F S512x256 .f32) (x4 : Vec F S256x512 .f32) : sProp 𝕄 :=
  iprop((∃ W, owes (c : Thread nD τ) (debt 3 c + debt 1 c) W) ∗ (∃ f, vPts c rOwn fullShare f) ∗ (kept 0 c ∗ kept 1 c) ∗ (kept 2 c ∗ kept 3 c)
    ∗ toSend 1 c ∗ toSend 3 c ∗ buf c cc0_stg4_0 x4 ∗ buf c cc0_stg1_0 x1 ∗ buf c cc0_stg0_0 x0 ∗ (∃ f, buf c cc0_scratch3 f))
/-- What it ends with. -/
def post2 (c : Dev nD) (x0 : Vec F S2x256x512 .f32) (x1 : Vec F S512x256 .f32) (x4 : Vec F S256x512 .f32) : sProp 𝕄 :=
  iprop((∃ W, owes (c : Thread nD τ) 0 W) ∗ vPts c rOwn fullShare.left (VF X3 c) ∗ (filled X2 X3 0 c ∗ filled X2 X3 1 c) ∗ (filled X2 X3 2 c ∗ filled X2 X3 3 c)
    ∗ lent X2 X3 1 c ∗ lent X2 X3 3 c ∗ buf c cc0_stg4_0 x4 ∗ buf c cc0_stg1_0 x1 ∗ buf c cc0_stg0_0 x0 ∗ buf c cc0_scratch3 (k0_pay9 x4))

set_option maxHeartbeats 1000000 in
/-- The second part. -/
theorem run2 (K : GSem nD τ sig → ℕ) (c : Dev nD) (x0 : Vec F S2x256x512 .f32) (x1 : Vec F S512x256 .f32) (x4 : Vec F S256x512 .f32) (v2 : BitVec 32)
    {h0 : M0.IsWhole} {h1 : M1.IsWhole} {h2 : M2.IsWhole} {h3 : M3.IsWhole} {h4 : M4.IsWhole} {h5 : M5.IsWhole}
    {h6 : kM.IsWhole} {h7 : vM.IsWhole} {h8 : qM.IsWhole} {h9 : wM.IsWhole} {Q : (Σ' (_ : FVec F S512x256 .bf16), FVec F S256x256 .bf16) → sProp 𝕄} :
    iprop(records X2 X3 K ∗ pre2 c x0 x1 x4 ∗ (post2 X2 X3 c x0 x1 x4 -∗ Q ⟨k0_pay10 x1, k0_pay11 x1 (x0at 0 inb_S2x256x512_S1x256x512_0_0_0 x0)⟩))
      ⊢ wp frame (wpE (defs₀ (F := F)) 𝒱₀ c none) Set.univ
          (k0_part2 M0 h0 M1 h1 M2 h2 M3 h3 M4 h4 M5 h5 kM h6 vM h7 qM h8 wM h9 cc0_scratch4 cc0_scratch5 c v2 (bitL c) (bitR c) (X3 c)) Q := by
  simp only [k0_part2_eq_skeleton]; unfold k0_part2_skel
  simp only [Prog.lift, Prog.bind_op, Prog.bind_ret, Prog.pure_eq_ret, Prog.bind_assoc]
  unfold pre2
  iintro ⟨#HI, ⟨HO, ⟨%f, Hv⟩, Hk01, Hk23, Hd1, Hd3, Hx4, Hx1, Hx0, ⟨%g, Hw⟩⟩, HQ⟩
  iapply (wp_load 𝒱₀ (c : Thread nD τ) none Set.univ (m := vM) (r := rOwn.toLoadRect) (S := vM.view.setOn rOwn.set) (Finset.Subset.refl _)) $$ Hv
  iintro Hv
  iapply (wp_store 𝒱₀ (c : Thread nD τ) none Set.univ (m := vM) (r := rOwn) (S := vM.view.setOn rOwn.set) (le_of_eq (View.set_slice vM.view rOwn))) $$ Hv
  iintro Hv
  ihave Hv := (Entails.of_eq (v_stored c rOwn f (VF X3 c) (k0_pay3 (X3 c)) (full_own _ _ _ c))) $$ Hv
  ihave Hv := (v_lend c (VF X3 c)).1 $$ Hv
  icases Hv with ⟨Hv, Hlo, Hhi⟩
  iapply (wp_sendIf X2 X3 K c 1 (debt 3 c) (cond3_iff c) (src := vM.slice rHi (fun _ => rfl)) (dst := vM.slice rL (fun _ => rfl)) rfl rfl
    snd_slice1 rcv_slice1 (dev5_eq c))
  isplitl [Hhi Hd1 HO]
  · isplitr; · iexact HI
    isplitl [Hhi]; · iapply (Entails.of_eq (show vPts c rHi fullShare.right (VF X3 c) = sndPay X2 X3 1 c from rfl)); iexact Hhi
    isplitl [Hd1]; · iexact Hd1
    iexact HO
  iintro ⟨Hl1, HO⟩
  ihave HO := (Entails.of_eq (congrArg (fun O => (iprop(∃ W, owes (c : Thread nD τ) O W) : sProp 𝕄)) (zero_add (debt 3 c)).symm)) $$ HO
  iapply (wp_sendIf X2 X3 K c 3 0 (cond4_iff c) (src := vM.slice rLo (fun _ => rfl)) (dst := vM.slice rR (fun _ => rfl)) rfl rfl
    snd_slice3 rcv_slice3 (dev6_eq c))
  isplitl [Hlo Hd3 HO]
  · isplitr; · iexact HI
    isplitl [Hlo]; · iapply (Entails.of_eq (show vPts c rLo fullShare.right (VF X3 c) = sndPay X2 X3 3 c from rfl)); iexact Hlo
    isplitl [Hd3]; · iexact Hd3
    iexact HO
  iintro ⟨Hl3, HO⟩
  iapply (wp_fillIf X2 X3 c rL 0 1 k0_pay5 k0_pay6 (fun _ => rfl) (fun _ => rfl) (fun h => show ∀ j, KF X2 c (rL.emb j) = k0_pay5 j from full_at_left_edge _ _ _ c h)
    (fun h => show ∀ j, VF X3 c (rL.emb j) = k0_pay6 j from full_at_left_edge _ _ _ c h)
    (noL_iff c) Iff.rfl)
  isplitl [Hk01]; · iexact Hk01
  iintro Hk01
  iapply (wp_fillIf X2 X3 c rR 2 3 k0_pay7 k0_pay8 (fun _ => rfl) (fun _ => rfl) (fun h => show ∀ j, KF X2 c (rR.emb j) = k0_pay7 j from full_at_right_edge _ _ _ c h)
    (fun h => show ∀ j, VF X3 c (rR.emb j) = k0_pay8 j from full_at_right_edge _ _ _ c h)
    (noR_iff c) Iff.rfl)
  isplitl [Hk23]; · iexact Hk23
  iintro Hk23
  iapply (wp_load 𝒱₀ (c : Thread nD τ) none Set.univ (m := M4) (S := Finset.univ) (Finset.subset_univ _)) $$ Hx4
  iintro Hx4
  rw [read4]
  iapply (wp_load 𝒱₀ (c : Thread nD τ) none Set.univ (m := wM) (S := Finset.univ) (Finset.subset_univ _)) $$ Hw
  iintro Hw
  iapply (wp_store 𝒱₀ (c : Thread nD τ) none Set.univ (m := wM) (r := Rect.unit (s := S256x512) ![0, 0] S256x512.size inb_S256x512_S256x512_0_0)
    (S := Finset.univ) (Finset.subset_univ _)) $$ Hw
  iintro Hw
  rw [writeW]
  iapply (wp_load 𝒱₀ (c : Thread nD τ) none Set.univ (m := M1) (S := Finset.univ) (Finset.subset_univ _)) $$ Hx1
  iintro Hx1
  rw [read1]
  iapply (wp_load 𝒱₀ (c : Thread nD τ) none Set.univ (m := M0) (S := Finset.univ) (Finset.subset_univ _)) $$ Hx0
  iintro Hx0
  rw [wp_ret]
  imodintro
  iapply HQ
  unfold post2
  isplitl [HO]; · iexact HO
  isplitl [Hv]; · iexact Hv
  isplitl [Hk01]; · iexact Hk01
  isplitl [Hk23]; · iexact Hk23
  isplitl [Hl1]; · iexact Hl1
  isplitl [Hl3]; · iexact Hl3
  isplitl [Hx4]; · iexact Hx4
  isplitl [Hx1]; · iexact Hx1
  isplitl [Hx0]; · iexact Hx0
  iexact Hw

end Cert.KernelIdeal.Halo

end
-- ==== Proof.Heads.lean ====
module

public import proofs.«01_k».proof.Proof.Start

@[expose] public section

noncomputable section

namespace Cert.KernelIdeal.Halo

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.ValueIdx (ix3)
open Cert.KernelIdeal Cert.KernelIdeal.Gen

variable {F : FTy → Type} [FloatOps F]

local notation "𝕄" => MT nD τ sig Unit (Elt F) ℕ UU ℕ

/-! ## What the body loads -/

/-- Head `h` of batch `b` of the device's own columns of a scratch holding `f`. -/
abbrev ctr (f : KV F) (b h : ℕ) (inb : ∀ a, (![b, h, 0, 0] : Fin 4 → ℕ) a + S1x1x64x256.size a ≤ S2x4x64x512.size a := by decide) : Vec F S1x1x64x256 .bf16 :=
  kM.view.readAt (Elt F) (Rect.unit (s := S2x4x64x512) ![b, h, 0, 0] S1x1x64x256.size inb).toLoadRect f
abbrev ctrV (f : KV F) (b h : ℕ) (inb : ∀ a, (![b, h, 0, 0] : Fin 4 → ℕ) a + S1x1x64x256.size a ≤ S2x4x64x512.size a := by decide) : Vec F S1x1x64x256 .bf16 :=
  vM.view.readAt (Elt F) (Rect.unit (s := S2x4x64x512) ![b, h, 0, 0] S1x1x64x256.size inb).toLoadRect f
/-- The same head of the 128 columns from column `o` on. -/
abbrev side (f : KV F) (b h o : ℕ) (inb : ∀ a, (![b, h, 0, o] : Fin 4 → ℕ) a + S1x1x64x128.size a ≤ S2x4x64x512.size a := by decide) : Vec F S1x1x64x128 .bf16 :=
  kM.view.readAt (Elt F) (Rect.unit (s := S2x4x64x512) ![b, h, 0, o] S1x1x64x128.size inb).toLoadRect f
abbrev sideV (f : KV F) (b h o : ℕ) (inb : ∀ a, (![b, h, 0, o] : Fin 4 → ℕ) a + S1x1x64x128.size a ≤ S2x4x64x512.size a := by decide) : Vec F S1x1x64x128 .bf16 :=
  vM.view.readAt (Elt F) (Rect.unit (s := S2x4x64x512) ![b, h, 0, o] S1x1x64x128.size inb).toLoadRect f
/-- All query rows of batch `b`, from column `o` on. -/
abbrev qry (f : Vec F S2x256x256 .bf16) (b o : ℕ) (inb : ∀ a, (![b, 0, o] : Fin 3 → ℕ) a + S1x256x64.size a ≤ S2x256x256.size a := by decide) : Vec F S1x256x64 .bf16 :=
  qM.view.readAt (Elt F) (Rect.unit (s := S2x256x256) ![b, 0, o] S1x256x64.size inb).toLoadRect f
/-- 128 query rows of batch `b` from row `r` on, from column `o` on. -/
abbrev half (f : Vec F S2x256x256 .bf16) (b r o : ℕ) (inb : ∀ a, (![b, r, o] : Fin 3 → ℕ) a + S1x128x64.size a ≤ S2x256x256.size a := by decide) : Vec F S1x128x64 .bf16 :=
  qM.view.readAt (Elt F) (Rect.unit (s := S2x256x256) ![b, r, o] S1x128x64.size inb).toLoadRect f

/-- The query scratch, held whole. -/
abbrev qPts (c : Dev nD) (q : Vec F S2x256x256 .bf16) : sProp 𝕄 := qM.view.loc (c : Thread nD τ) ↦{fullShare} q
/-- The output weights' scratch, held whole. -/
abbrev wPts (c : Dev nD) (w : Vec F S256x512 .bf16) : sProp 𝕄 := wM.view.loc (c : Thread nD τ) ↦{fullShare} w
/-- The staged result, held whole. -/
abbrev oPts (c : Dev nD) (o : Vec F S2x256x512 .bf16) : sProp 𝕄 := M5.view.loc (c : Thread nD τ) ↦{fullShare} o
/-- The staged input, held whole. -/
abbrev xPts (c : Dev nD) (x : Vec F S2x256x512 .f32) : sProp 𝕄 := M0.view.loc (c : Thread nD τ) ↦{fullShare} x
/-- A row block of the queries overwritten. -/
abbrev putQ (f : Vec F S2x256x256 .bf16) (b : ℕ) (w : FVec F S1x256x256 .bf16) (inb : ∀ a, (![b, 0, 0] : Fin 3 → ℕ) a + S1x256x256.size a ≤ S2x256x256.size a := by decide) : Vec F S2x256x256 .bf16 :=
  (qM.access (Rect.unit (s := S2x256x256) ![b, 0, 0] S1x256x256.size inb)).write (Elt F) f w Finset.univ
/-- A row block of the result overwritten. -/
abbrev putO (f : Vec F S2x256x512 .bf16) (b : ℕ) (w : FVec F S1x256x512 .bf16) (inb : ∀ a, (![b, 0, 0] : Fin 3 → ℕ) a + S1x256x512.size a ≤ S2x256x512.size a := by decide) : Vec F S2x256x512 .bf16 :=
  (M5.access (Rect.unit (s := S2x256x512) ![b, 0, 0] S1x256x512.size inb)).write (Elt F) f w Finset.univ

/-- Two batches' blocks of queries, one after the other. -/
def stackQ (a b : FVec F S1x256x256 .bf16) : Vec F S2x256x256 .bf16 := fun i => if (i 0).val = 0 then a (ix3 0 (i 1) (i 2)) else b (ix3 0 (i 1) (i 2))
/-- Two batches' blocks of results, one after the other. -/
def stackO (a b : FVec F S1x256x512 .bf16) : Vec F S2x256x512 .bf16 := fun i => if (i 0).val = 0 then a (ix3 0 (i 1) (i 2)) else b (ix3 0 (i 1) (i 2))

omit [FloatOps F] in
/-- Writing both blocks leaves nothing of what was there. -/
theorem putQ_two (f : Vec F S2x256x256 .bf16) (a b : FVec F S1x256x256 .bf16) : putQ (putQ f 0 a) 1 b = stackQ a b := by
  funext i
  have h0 : (i 0).val < 2 := (i 0).isLt
  have hi : ∀ (o : ℕ) (inb : ∀ a, (![o, 0, 0] : Fin 3 → ℕ) a + S1x256x256.size a ≤ S2x256x256.size a), (i 0).val = o →
      i = (qM.access (Rect.unit (s := S2x256x256) ![o, 0, 0] S1x256x256.size inb)).emb (ix3 0 (i 1) (i 2)) := by
    intro o inb h
    funext a
    apply Fin.ext
    fin_cases a
    · show (i 0).val = o + 1 * 0; omega
    · show (i 1).val = 0 + 1 * (i 1).val; omega
    · show (i 2).val = 0 + 1 * (i 2).val; omega
  unfold stackQ
  by_cases h : (i 0).val = 0
  · rw [if_pos h]
    refine (View.write_of_not_mem _ _ _ ?_).trans ?_
    · rw [View.setOn, Finset.mem_map]
      rintro ⟨j, -, hj⟩
      have := congrArg (fun i : S2x256x256.Idx => (i 0).val) hj
      have h' : 1 + 1 * (j 0).val = (i 0).val := this
      omega
    · conv_lhs => rw [hi 0 (by decide) h]
      exact View.write_emb_of_mem _ _ (Finset.mem_univ _)
  · rw [if_neg h]
    conv_lhs => rw [hi 1 (by decide) (by omega)]
    exact View.write_emb_of_mem _ _ (Finset.mem_univ _)
omit [FloatOps F] in
/-- Writing both blocks leaves nothing of what was there. -/
theorem putO_two (f : Vec F S2x256x512 .bf16) (a b : FVec F S1x256x512 .bf16) : putO (putO f 0 a) 1 b = stackO a b := by
  funext i
  have h0 : (i 0).val < 2 := (i 0).isLt
  have hi : ∀ (o : ℕ) (inb : ∀ a, (![o, 0, 0] : Fin 3 → ℕ) a + S1x256x512.size a ≤ S2x256x512.size a), (i 0).val = o →
      i = (M5.access (Rect.unit (s := S2x256x512) ![o, 0, 0] S1x256x512.size inb)).emb (ix3 0 (i 1) (i 2)) := by
    intro o inb h
    funext a
    apply Fin.ext
    fin_cases a
    · show (i 0).val = o + 1 * 0; omega
    · show (i 1).val = 0 + 1 * (i 1).val; omega
    · show (i 2).val = 0 + 1 * (i 2).val; omega
  unfold stackO
  by_cases h : (i 0).val = 0
  · rw [if_pos h]
    refine (View.write_of_not_mem _ _ _ ?_).trans ?_
    · rw [View.setOn, Finset.mem_map]
      rintro ⟨j, -, hj⟩
      have := congrArg (fun i : S2x256x512.Idx => (i 0).val) hj
      have h' : 1 + 1 * (j 0).val = (i 0).val := this
      omega
    · conv_lhs => rw [hi 0 (by decide) h]
      exact View.write_emb_of_mem _ _ (Finset.mem_univ _)
  · rw [if_neg h]
    conv_lhs => rw [hi 1 (by decide) (by omega)]
    exact View.write_emb_of_mem _ _ (Finset.mem_univ _)

/-- The own columns of both scratches and the queries, as held while the own columns are attended to. -/
abbrev ownSt (c : Dev nD) (k v : KV F) (q : Vec F S2x256x256 .bf16) : sProp 𝕄 :=
  iprop(kPts c rOwn fullShare.left k ∗ vPts c rOwn fullShare.left v ∗ qPts c q)

/-- Everything held while the halos are attended to as well. -/
abbrev allSt (c : Dev nD) (k v : KV F) (q : Vec F S2x256x256 .bf16) : sProp 𝕄 :=
  iprop(kPts c rOwn fullShare.left k ∗ vPts c rOwn fullShare.left v ∗ kPts c rL fullShare k ∗ kPts c rR fullShare k ∗ vPts c rL fullShare v ∗ vPts c rR fullShare v ∗ qPts c q)

/-! ## The parts, one at a time -/

variable {h0 : M0.IsWhole} {h1 : M1.IsWhole} {h2 : M2.IsWhole} {h3 : M3.IsWhole} {h4 : M4.IsWhole} {h5 : M5.IsWhole}
  {h6 : kM.IsWhole} {h7 : vM.IsWhole} {h8 : qM.IsWhole} {h9 : wM.IsWhole}
variable (c : Dev nD) (k v : KV F) (q : Vec F S2x256x256 .bf16)

set_option maxHeartbeats 1000000 in
/-- Part 4: the first head, the second, and the scores of the third. -/
theorem run4 (v80 : FVec F S256x256 .f32) (v94 : FVec F S256x64 .bf16)
    {Q : (Σ' (_ : FVec F S256x1 .f32) (_ : FVec F S256x64 .f32) (_ : FVec F S256x1 .f32) (_ : FVec F S256x64 .f32), FVec F S256x256 .f32) → sProp 𝕄} :
    iprop(ownSt c k v q ∗ (ownSt c k v q -∗ Q ⟨k0_pay19 v80 v94 (ctr k 0 0), k0_pay20 v80 v94 (ctr k 0 0) (ctrV v 0 0), k0_pay22 v80 (qry q 0 64) (ctr k 0 1), k0_pay23 v80 (qry q 0 64) (ctr k 0 1) (ctrV v 0 1), k0_pay24 v80 (qry q 0 128) (ctr k 0 2)⟩))
      ⊢ wp frame (wpE (defs₀ (F := F)) 𝒱₀ c none) Set.univ
          (k0_part4 M0 h0 M1 h1 M2 h2 M3 h3 M4 h4 M5 h5 kM h6 vM h7 qM h8 wM h9 cc0_scratch4 cc0_scratch5 v80 v94) Q := by
  simp only [k0_part4_eq_skeleton]; unfold k0_part4_skel
  iintro ⟨⟨Hk, Hv, Hq⟩, HQ⟩
  sl_exec
  sl_step
  iapply HQ
  isplitl [Hk]; · iexact Hk
  isplitl [Hv]; · iexact Hv
  iexact Hq

set_option maxHeartbeats 1000000 in
/-- Part 5: the third head, the fourth, and the first of the second batch but for its weighted sum. -/
theorem run5 (v80 v125 : FVec F S256x256 .f32)
    {Q : (Σ' (_ : FVec F S256x1 .f32) (_ : FVec F S256x64 .f32) (_ : FVec F S256x1 .f32) (_ : FVec F S256x64 .f32) (_ : FVec F S256x1 .f32), FVec F S256x256 .bf16) → sProp 𝕄} :
    iprop(ownSt c k v q ∗ (ownSt c k v q -∗ Q ⟨k0_pay25 v125, k0_pay26 v125 (ctrV v 0 2), k0_pay28 v80 (qry q 0 192) (ctr k 0 3), k0_pay29 v80 (qry q 0 192) (ctr k 0 3) (ctrV v 0 3), k0_pay31 v80 (qry q 1 0) (ctr k 1 0), k0_pay32 v80 (qry q 1 0) (ctr k 1 0)⟩))
      ⊢ wp frame (wpE (defs₀ (F := F)) 𝒱₀ c none) Set.univ
          (k0_part5 M0 h0 M1 h1 M2 h2 M3 h3 M4 h4 M5 h5 kM h6 vM h7 qM h8 wM h9 cc0_scratch4 cc0_scratch5 v80 v125) Q := by
  simp only [k0_part5_eq_skeleton]; unfold k0_part5_skel
  iintro ⟨⟨Hk, Hv, Hq⟩, HQ⟩
  sl_exec
  sl_step
  iapply HQ
  isplitl [Hk]; · iexact Hk
  isplitl [Hv]; · iexact Hv
  iexact Hq

set_option maxHeartbeats 1000000 in
/-- Part 6: that sum, and the second and third heads of the second batch. -/
theorem run6 (v80 : FVec F S256x256 .f32) (v154 : FVec F S256x256 .bf16)
    {Q : (Σ' (_ : FVec F S256x64 .f32) (_ : FVec F S256x1 .f32) (_ : FVec F S256x64 .f32) (_ : FVec F S256x1 .f32), FVec F S256x64 .f32) → sProp 𝕄} :
    iprop(ownSt c k v q ∗ (ownSt c k v q -∗ Q ⟨k0_pay33 v154 (ctrV v 1 0), k0_pay35 v80 (qry q 1 64) (ctr k 1 1), k0_pay36 v80 (qry q 1 64) (ctr k 1 1) (ctrV v 1 1), k0_pay38 v80 (qry q 1 128) (ctr k 1 2), k0_pay39 v80 (qry q 1 128) (ctr k 1 2) (ctrV v 1 2)⟩))
      ⊢ wp frame (wpE (defs₀ (F := F)) 𝒱₀ c none) Set.univ
          (k0_part6 M0 h0 M1 h1 M2 h2 M3 h3 M4 h4 M5 h5 kM h6 vM h7 qM h8 wM h9 cc0_scratch4 cc0_scratch5 v80 v154) Q := by
  simp only [k0_part6_eq_skeleton]; unfold k0_part6_skel
  iintro ⟨⟨Hk, Hv, Hq⟩, HQ⟩
  sl_exec
  sl_step
  iapply HQ
  isplitl [Hk]; · iexact Hk
  isplitl [Hv]; · iexact Hv
  iexact Hq

set_option maxHeartbeats 1000000 in
/-- Part 8: the context of the first head, and the start of the second. -/
theorem run8 (v87 v92 : FVec F S128x128 .f32) (v101 : FVec F S256x1 .f32) (v105 : FVec F S256x64 .f32) (v204 : FVec F S128x64 .bf16) (v209 : FVec F S128x128 .f32) (v210 : Vec F S1x1x64x128 .bf16)
    {Q : (Σ' (_ : FVec F S256x64 .bf16) (_ : FVec F S128x64 .bf16), FVec F S128x128 .f32) → sProp 𝕄} :
    iprop(allSt c k v q ∗ (allSt c k v q -∗ Q ⟨k0_pay45 v92 v101 v105 v204 v209 v210 (sideV v 0 0 256) (sideV v 0 0 384), k0_pay46 (half q 0 128 64), k0_pay47 v87 (half q 0 0 64) (side k 0 1 256)⟩))
      ⊢ wp frame (wpE (defs₀ (F := F)) 𝒱₀ c none) Set.univ
          (k0_part8 M0 h0 M1 h1 M2 h2 M3 h3 M4 h4 M5 h5 kM h6 vM h7 qM h8 wM h9 cc0_scratch4 cc0_scratch5 v87 v92 v101 v105 v204 v209 v210) Q := by
  simp only [k0_part8_eq_skeleton]; unfold k0_part8_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 9: the context of the second head, and the start of the third. -/
theorem run9 (v87 v92 : FVec F S128x128 .f32) (v114 : FVec F S256x1 .f32) (v118 : FVec F S256x64 .f32) (v237 : FVec F S128x64 .bf16) (v242 : FVec F S128x128 .f32)
    {Q : (Σ' (_ : FVec F S256x64 .bf16) (_ : FVec F S128x64 .bf16), FVec F S128x128 .f32) → sProp 𝕄} :
    iprop(allSt c k v q ∗ (allSt c k v q -∗ Q ⟨k0_pay48 v92 v114 v118 v237 v242 (side k 0 1 384) (sideV v 0 1 256) (sideV v 0 1 384), k0_pay49 (half q 0 128 128), k0_pay50 v87 (half q 0 0 128) (side k 0 2 256)⟩))
      ⊢ wp frame (wpE (defs₀ (F := F)) 𝒱₀ c none) Set.univ
          (k0_part9 M0 h0 M1 h1 M2 h2 M3 h3 M4 h4 M5 h5 kM h6 vM h7 qM h8 wM h9 cc0_scratch4 cc0_scratch5 v87 v92 v114 v118 v237 v242) Q := by
  simp only [k0_part9_eq_skeleton]; unfold k0_part9_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 10: the context of the third head, and the start of the fourth. -/
theorem run10 (v87 v92 : FVec F S128x128 .f32) (v127 : FVec F S256x1 .f32) (v131 : FVec F S256x64 .f32) (v270 : FVec F S128x64 .bf16) (v275 : FVec F S128x128 .f32)
    {Q : (Σ' (_ : FVec F S256x64 .bf16) (_ : FVec F S128x64 .bf16), FVec F S128x128 .f32) → sProp 𝕄} :
    iprop(allSt c k v q ∗ (allSt c k v q -∗ Q ⟨k0_pay51 v92 v127 v131 v270 v275 (side k 0 2 384) (sideV v 0 2 256) (sideV v 0 2 384), k0_pay52 (half q 0 128 192), k0_pay53 v87 (half q 0 0 192) (side k 0 3 256)⟩))
      ⊢ wp frame (wpE (defs₀ (F := F)) 𝒱₀ c none) Set.univ
          (k0_part10 M0 h0 M1 h1 M2 h2 M3 h3 M4 h4 M5 h5 kM h6 vM h7 qM h8 wM h9 cc0_scratch4 cc0_scratch5 v87 v92 v127 v131 v270 v275) Q := by
  simp only [k0_part10_eq_skeleton]; unfold k0_part10_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 12: the context of the first head of the second batch. -/
theorem run12 (v87 v92 : FVec F S128x128 .f32) (v153 : FVec F S256x1 .f32) (v157 : FVec F S256x64 .f32) (v341 : FVec F S128x64 .bf16)
    {Q : (Σ' (_ : FVec F S256x64 .bf16), FVec F S128x64 .bf16) → sProp 𝕄} :
    iprop(allSt c k v q ∗ (allSt c k v q -∗ Q ⟨k0_pay56 v87 v92 v153 v157 v341 (half q 1 128 0) (side k 1 0 256) (side k 1 0 384) (sideV v 1 0 256) (sideV v 1 0 384), k0_pay57 (half q 1 0 64)⟩))
      ⊢ wp frame (wpE (defs₀ (F := F)) 𝒱₀ c none) Set.univ
          (k0_part12 M0 h0 M1 h1 M2 h2 M3 h3 M4 h4 M5 h5 kM h6 vM h7 qM h8 wM h9 cc0_scratch4 cc0_scratch5 v87 v92 v153 v157 v341) Q := by
  simp only [k0_part12_eq_skeleton]; unfold k0_part12_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 13: the context of the second head of the second batch. -/
theorem run13 (v87 v92 : FVec F S128x128 .f32) (v166 : FVec F S256x1 .f32) (v170 : FVec F S256x64 .f32) (v374 : FVec F S128x64 .bf16)
    {Q : (Σ' (_ : FVec F S256x64 .bf16), FVec F S128x64 .bf16) → sProp 𝕄} :
    iprop(allSt c k v q ∗ (allSt c k v q -∗ Q ⟨k0_pay58 v87 v92 v166 v170 v374 (half q 1 128 64) (side k 1 1 256) (side k 1 1 384) (sideV v 1 1 256) (sideV v 1 1 384), k0_pay59 (half q 1 0 128)⟩))
      ⊢ wp frame (wpE (defs₀ (F := F)) 𝒱₀ c none) Set.univ
          (k0_part13 M0 h0 M1 h1 M2 h2 M3 h3 M4 h4 M5 h5 kM h6 vM h7 qM h8 wM h9 cc0_scratch4 cc0_scratch5 v87 v92 v166 v170 v374) Q := by
  simp only [k0_part13_eq_skeleton]; unfold k0_part13_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 14: the context of the third head of the second batch. -/
theorem run14 (v87 v92 : FVec F S128x128 .f32) (v179 : FVec F S256x1 .f32) (v183 : FVec F S256x64 .f32) (v407 : FVec F S128x64 .bf16)
    {Q : (Σ' (_ : FVec F S256x64 .bf16), Vec F S1x128x64 .bf16) → sProp 𝕄} :
    iprop(allSt c k v q ∗ (allSt c k v q -∗ Q ⟨k0_pay60 v87 v92 v179 v183 v407 (half q 1 128 128) (side k 1 2 256) (side k 1 2 384) (sideV v 1 2 256) (sideV v 1 2 384), half q 1 0 192⟩))
      ⊢ wp frame (wpE (defs₀ (F := F)) 𝒱₀ c none) Set.univ
          (k0_part14 M0 h0 M1 h1 M2 h2 M3 h3 M4 h4 M5 h5 kM h6 vM h7 qM h8 wM h9 cc0_scratch4 cc0_scratch5 v87 v92 v179 v183 v407) Q := by
  simp only [k0_part14_eq_skeleton]; unfold k0_part14_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

set_option maxHeartbeats 1000000 in
/-- Part 15: the projected contexts of the second batch. -/
theorem run15 (v87 v92 : FVec F S128x128 .f32) (v192 : FVec F S256x1 .f32) (v196 : FVec F S256x64 .f32) (v372 v405 v438 : FVec F S256x64 .bf16) (v439 : Vec F S1x128x64 .bf16)
    {Q : (FVec F S256x256 .bf16) → sProp 𝕄} :
    iprop(allSt c k v q ∗ (allSt c k v q -∗ Q (k0_pay61 v87 v92 v192 v196 v372 v405 v438 v439 (half q 1 128 192) (side k 1 3 256) (side k 1 3 384) (sideV v 1 3 256) (sideV v 1 3 384))))
      ⊢ wp frame (wpE (defs₀ (F := F)) 𝒱₀ c none) Set.univ
          (k0_part15 M0 h0 M1 h1 M2 h2 M3 h3 M4 h4 M5 h5 kM h6 vM h7 qM h8 wM h9 cc0_scratch4 cc0_scratch5 v87 v92 v192 v196 v372 v405 v438 v439) Q := by
  simp only [k0_part15_eq_skeleton]; unfold k0_part15_skel
  iintro ⟨⟨Hk, Hv, HkL, HkR, HvL, HvR, Hq⟩, HQ⟩
  sl_exec
  sl_step
  iapply HQ
  isplitl [Hk]; · iexact Hk
  isplitl [Hv]; · iexact Hv
  isplitl [HkL]; · iexact HkL
  isplitl [HkR]; · iexact HkR
  isplitl [HvL]; · iexact HvL
  isplitl [HvR]; · iexact HvR
  iexact Hq

/-! ### The queries stored, and the masks -/

set_option maxHeartbeats 1000000 in
/-- Part 3: the queries stored, the masks made. -/
theorem run3 (x0 : Vec F S2x256x512 .f32) (v3 v4 : BitVec 1) (v49 : FVec F S512x256 .bf16) (v56 : FVec F S256x256 .bf16)
    {Q : (Σ' (_ : FVec F S256x256 .f32) (_ : FVec F S128x128 .f32) (_ : FVec F S128x128 .f32), FVec F S256x64 .bf16) → sProp 𝕄} :
    iprop((∃ f, qPts c f) ∗ xPts c x0 ∗ ((qPts c (stackQ (k0_pay12 v56) (k0_pay13 v49 (x0at 1 inb_S2x256x512_S1x256x512_1_0_0 x0))) ∗ xPts c x0)
        -∗ Q ⟨k0_pay14, k0_pay15 v3, k0_pay16 v4, k0_pay17 (qry (stackQ (k0_pay12 v56) (k0_pay13 v49 (x0at 1 inb_S2x256x512_S1x256x512_1_0_0 x0))) 0 0)⟩))
      ⊢ wp frame (wpE (defs₀ (F := F)) 𝒱₀ c none) Set.univ
          (k0_part3 M0 h0 M1 h1 M2 h2 M3 h3 M4 h4 M5 h5 kM h6 vM h7 qM h8 wM h9 cc0_scratch4 cc0_scratch5 v3 v4 v49 v56) Q := by
  simp only [k0_part3_eq_skeleton]; unfold k0_part3_skel
  simp only [Prog.lift, Prog.bind_op, Prog.bind_ret, Prog.pure_eq_ret, Prog.bind_assoc]
  iintro ⟨⟨%f, Hq⟩, Hx, HQ⟩
  iapply (wp_load 𝒱₀ (c : Thread nD τ) none Set.univ (m := qM) (S := Finset.univ) (Finset.subset_univ _)) $$ Hq
  iintro Hq
  iapply (wp_store 𝒱₀ (c : Thread nD τ) none Set.univ (m := qM) (r := Rect.unit (s := S2x256x256) ![0, 0, 0] S1x256x256.size inb_S2x256x256_S1x256x256_0_0_0)
    (S := Finset.univ) (Finset.subset_univ _)) $$ Hq
  iintro Hq
  iapply (wp_load 𝒱₀ (c : Thread nD τ) none Set.univ (m := M0) (S := Finset.univ) (Finset.subset_univ _)) $$ Hx
  iintro Hx
  iapply (wp_load 𝒱₀ (c : Thread nD τ) none Set.univ (m := qM) (S := Finset.univ) (Finset.subset_univ _)) $$ Hq
  iintro Hq
  iapply (wp_store 𝒱₀ (c : Thread nD τ) none Set.univ (m := qM) (r := Rect.unit (s := S2x256x256) ![1, 0, 0] S1x256x256.size inb_S2x256x256_S1x256x256_1_0_0)
    (S := Finset.univ) (Finset.subset_univ _)) $$ Hq
  iintro Hq
  ihave Hq := (Entails.of_eq (congrArg (qPts c) (putQ_two f (k0_pay12 v56) (k0_pay13 v49 (x0at 1 inb_S2x256x512_S1x256x512_1_0_0 x0))))) $$ Hq
  iapply (wp_load 𝒱₀ (c : Thread nD τ) none Set.univ (m := qM) (S := Finset.univ) (Finset.subset_univ _)) $$ Hq
  iintro Hq
  rw [wp_ret]
  imodintro
  iapply HQ
  isplitl [Hq]; · iexact Hq
  iexact Hx

omit [FloatOps F] in
theorem readW (f : Vec F S256x512 .bf16) : wM.view.readAt (Elt F) (Rect.unit (s := S256x512) ![0, 0] S256x512.size inb_S256x512_S256x512_0_0).toLoadRect f = f :=
  Memref.readAt_unit_zero (Elt F) cc0_scratch3 hz2 _ f
omit [FloatOps F] in
/-- One row block's write, listed as the only one. -/
theorem put_eq (o : Vec F S2x256x512 .bf16) (b : ℕ) (w : FVec F S1x256x512 .bf16) (inb : ∀ a, (![b, 0, 0] : Fin 3 → ℕ) a + S1x256x512.size a ≤ S2x256x512.size a) :
    (oPts c (M5.view.writes (Elt F) o [⟨Rect.unit (s := S2x256x512) ![b, 0, 0] S1x256x512.size inb, w⟩]) : sProp 𝕄) = oPts c (putO o b w inb) := rfl

set_option maxHeartbeats 1000000 in
/-- Part 11: the first batch's contexts projected and stored. -/
theorem run11 (w : Vec F S256x512 .bf16) (v92 : FVec F S128x128 .f32) (v140 : FVec F S256x1 .f32) (v144 : FVec F S256x64 .f32) (v233 v266 v299 : FVec F S256x64 .bf16)
    (v303 : FVec F S128x64 .bf16) (v308 : FVec F S128x128 .f32) {Q : FVec F S128x64 .bf16 → sProp 𝕄} :
    iprop(allSt c k v q ∗ wPts c w ∗ (∃ o, oPts c o)
        ∗ ((allSt c k v q ∗ wPts c w ∗ ∃ o, oPts c (putO o 0 (k0_pay54 v92 v140 v144 v233 v266 v299 v303 v308 (side k 0 3 384) (sideV v 0 3 256) (sideV v 0 3 384) w)))
          -∗ Q (k0_pay55 (half q 1 0 0))))
      ⊢ wp frame (wpE (defs₀ (F := F)) 𝒱₀ c none) Set.univ
          (k0_part11 M0 h0 M1 h1 M2 h2 M3 h3 M4 h4 M5 h5 kM h6 vM h7 qM h8 wM h9 cc0_scratch4 cc0_scratch5 v92 v140 v144 v233 v266 v299 v303 v308) Q := by
  simp only [k0_part11_eq_skeleton]; unfold k0_part11_skel
  iintro ⟨⟨Hk, Hv, HkL, HkR, HvL, HvR, Hq⟩, Hw, ⟨%o, Ho⟩, HQ⟩
  sl_exec
  rw [readW]
  ihave Ho := (Entails.of_eq (put_eq c o _ _ _)) $$ Ho
  sl_step
  iapply HQ
  isplitl [Hk Hv HkL HkR HvL HvR Hq]
  · isplitl [Hk]; · iexact Hk
    isplitl [Hv]; · iexact Hv
    isplitl [HkL]; · iexact HkL
    isplitl [HkR]; · iexact HkR
    isplitl [HvL]; · iexact HvL
    isplitl [HvR]; · iexact HvR
    iexact Hq
  isplitl [Hw]; · iexact Hw
  iexists o
  iexact Ho

end Cert.KernelIdeal.Halo

end
-- ==== Proof.Body.lean ====
module

public import proofs.«01_k».proof.Proof.Heads

@[expose] public section

noncomputable section

namespace Cert.KernelIdeal.Halo

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.ValueIdx (ix3)
open Cert.KernelIdeal Cert.KernelIdeal.Gen

variable {F : FTy → Type} [FloatOps F]

local notation "𝕄" => MT nD τ sig Unit (Elt F) ℕ UU ℕ

/-! ## The value of a run -/

section Value

variable (m : FVec F S256x256 .f32) (l r : FVec F S128x128 .f32) (k v : KV F) (q : Vec F S2x256x256 .bf16) (w : Vec F S256x512 .bf16)

/-- The contexts of the first batch's heads but the last, from the masks, the keys, the values and the queries. -/
abbrev ctx00 : FVec F S256x64 .bf16 :=
  k0_pay45 r (k0_pay19 m (k0_pay17 (qry q 0 0)) (ctr k 0 0)) (k0_pay20 m (k0_pay17 (qry q 0 0)) (ctr k 0 0) (ctrV v 0 0)) (k0_pay43 (half q 0 128 0)) (k0_pay44 l (half q 0 0 0) (side k 0 0 256)) (side k 0 0 384) (sideV v 0 0 256) (sideV v 0 0 384)
abbrev ctx01 : FVec F S256x64 .bf16 :=
  k0_pay48 r (k0_pay22 m (qry q 0 64) (ctr k 0 1)) (k0_pay23 m (qry q 0 64) (ctr k 0 1) (ctrV v 0 1)) (k0_pay46 (half q 0 128 64)) (k0_pay47 l (half q 0 0 64) (side k 0 1 256)) (side k 0 1 384) (sideV v 0 1 256) (sideV v 0 1 384)
abbrev ctx02 : FVec F S256x64 .bf16 :=
  k0_pay51 r (k0_pay25 (k0_pay24 m (qry q 0 128) (ctr k 0 2))) (k0_pay26 (k0_pay24 m (qry q 0 128) (ctr k 0 2)) (ctrV v 0 2)) (k0_pay49 (half q 0 128 128)) (k0_pay50 l (half q 0 0 128) (side k 0 2 256)) (side k 0 2 384) (sideV v 0 2 256) (sideV v 0 2 384)
/-- The first batch's result. -/
abbrev row0 : FVec F S1x256x512 .bf16 :=
  k0_pay54 r (k0_pay28 m (qry q 0 192) (ctr k 0 3)) (k0_pay29 m (qry q 0 192) (ctr k 0 3) (ctrV v 0 3)) (ctx00 m l r k v q) (ctx01 m l r k v q) (ctx02 m l r k v q)
    (k0_pay52 (half q 0 128 192)) (k0_pay53 l (half q 0 0 192) (side k 0 3 256)) (side k 0 3 384) (sideV v 0 3 256) (sideV v 0 3 384) w
/-- The contexts of the second batch's heads but the last. -/
abbrev ctx10 : FVec F S256x64 .bf16 :=
  k0_pay56 l r (k0_pay31 m (qry q 1 0) (ctr k 1 0)) (k0_pay33 (k0_pay32 m (qry q 1 0) (ctr k 1 0)) (ctrV v 1 0)) (k0_pay55 (half q 1 0 0)) (half q 1 128 0) (side k 1 0 256) (side k 1 0 384) (sideV v 1 0 256) (sideV v 1 0 384)
abbrev ctx11 : FVec F S256x64 .bf16 :=
  k0_pay58 l r (k0_pay35 m (qry q 1 64) (ctr k 1 1)) (k0_pay36 m (qry q 1 64) (ctr k 1 1) (ctrV v 1 1)) (k0_pay57 (half q 1 0 64)) (half q 1 128 64) (side k 1 1 256) (side k 1 1 384) (sideV v 1 1 256) (sideV v 1 1 384)
abbrev ctx12 : FVec F S256x64 .bf16 :=
  k0_pay60 l r (k0_pay38 m (qry q 1 128) (ctr k 1 2)) (k0_pay39 m (qry q 1 128) (ctr k 1 2) (ctrV v 1 2)) (k0_pay59 (half q 1 0 128)) (half q 1 128 128) (side k 1 2 256) (side k 1 2 384) (sideV v 1 2 256) (sideV v 1 2 384)
/-- The second batch's result. -/
abbrev row1 : FVec F S1x256x512 .bf16 :=
  k0_pay1 (k0_pay61 l r (k0_pay41 m (qry q 1 192) (ctr k 1 3)) (k0_pay42 m (qry q 1 192) (ctr k 1 3) (ctrV v 1 3)) (ctx10 m l r k v q) (ctx11 m l r k v q) (ctx12 m l r k v q)
    (half q 1 0 192) (half q 1 128 192) (side k 1 3 256) (side k 1 3 384) (sideV v 1 3 256) (sideV v 1 3 384)) w

end Value

variable (X2 X3 : Dev nD → Vec F S2x4x64x256 .f32)

/-- The queries of a device, from its input and the query weights. -/
abbrev qv (x0 : Vec F S2x256x512 .f32) (x1 : Vec F S512x256 .f32) : Vec F S2x256x256 .bf16 :=
  stackQ (k0_pay12 (k0_pay11 x1 (x0at 0 inb_S2x256x512_S1x256x512_0_0_0 x0))) (k0_pay13 (k0_pay10 x1) (x0at 1 inb_S2x256x512_S1x256x512_1_0_0 x0))

/-- What device `c` leaves in its staged result. -/
abbrev outV (c : Dev nD) (x0 : Vec F S2x256x512 .f32) (x1 : Vec F S512x256 .f32) (x4 : Vec F S256x512 .f32) : Vec F S2x256x512 .bf16 :=
  stackO (row0 k0_pay14 (k0_pay15 (bitL c)) (k0_pay16 (bitR c)) (KF X2 c) (VF X3 c) (qv x0 x1) (k0_pay9 x4))
    (row1 k0_pay14 (k0_pay15 (bitL c)) (k0_pay16 (bitR c)) (KF X2 c) (VF X3 c) (qv x0 x1) (k0_pay9 x4))

/-! ## Awaiting the halos -/

/-- The promise of copy `k`'s arrival, if one is to come. -/
def rcvCred (k : Fin 4) (c : Dev nD) : sProp 𝕄 := if Rcv k c then cred (tallyAt (rcvCell k c) () N) else iprop(emp)

/-- What an incoming copy left, with the credit of its semaphore, is what the wait for it takes. -/
theorem to_await (k : Fin 4) (c : Dev nD) : iprop(filled X2 X3 k c ∗ rcvCred k c) ⊢ awaited X2 X3 k c := by
  unfold awaited rcvCred
  by_cases h : Rcv k c
  · rw [if_pos h, if_pos h]
    iintro ⟨-, H⟩
    iexact H
  · rw [if_neg h, if_neg h, filled_neg X2 X3 h]
    iintro ⟨H, -⟩
    iexact H

/-- A head's own columns lie in the own columns. -/
theorem sub_own (b h : ℕ) (inb : ∀ a, (![b, h, 0, 0] : Fin 4 → ℕ) a + S1x1x64x256.size a ≤ S2x4x64x512.size a) :
    (Rect.unit (s := S2x4x64x512) ![b, h, 0, 0] S1x1x64x256.size inb).set ⊆ rOwn.set := by
  intro i hi
  rw [Rect.mem_set_unit] at hi
  rw [mem_cols 0 rfl rfl rfl]
  exact hi 3

variable {h0 : M0.IsWhole} {h1 : M1.IsWhole} {h2 : M2.IsWhole} {h3 : M3.IsWhole} {h4 : M4.IsWhole} {h5 : M5.IsWhole}
  {h6 : kM.IsWhole} {h7 : vM.IsWhole} {h8 : qM.IsWhole} {h9 : wM.IsWhole}

/-- Before the halos are waited for: what is awaited, and the positions of the cells waited on. -/
def pre7 (c : Dev nD) : sProp 𝕄 :=
  iprop((awaited X2 X3 0 c ∗ awaited X2 X3 1 c ∗ awaited X2 X3 2 c ∗ awaited X2 X3 3 c)
    ∗ (atPos ER (rcvCell 0 c) 0 ∅ 0 ∗ atPos ER (rcvCell 1 c) 0 ∅ 0 ∗ atPos ER (rcvCell 2 c) 0 ∅ 0 ∗ atPos ER (rcvCell 3 c) 0 ∅ 0) ∗ ∃ W, owes (c : Thread nD τ) 0 W)
/-- After: the arrival cells are done with. -/
def post7 (c : Dev nD) : sProp 𝕄 :=
  iprop((done X2 X3 (rcvCell 0 c) ∗ done X2 X3 (rcvCell 1 c) ∗ done X2 X3 (rcvCell 2 c) ∗ done X2 X3 (rcvCell 3 c)) ∗ ∃ W, owes (c : Thread nD τ) 0 W)

set_option maxHeartbeats 1000000 in
/-- Part 7: the last head of the second batch on the own columns, then both halos awaited. -/
theorem run7 (K : GSem nD τ sig → ℕ) (c : Dev nD) (q : Vec F S2x256x256 .bf16) (v2 : BitVec 32) (v80 : FVec F S256x256 .f32) (v87 : FVec F S128x128 .f32)
    {Q : (Σ' (_ : FVec F S256x1 .f32) (_ : FVec F S256x64 .f32) (_ : FVec F S128x64 .bf16) (_ : FVec F S128x128 .f32), Vec F S1x1x64x128 .bf16) → sProp 𝕄} :
    iprop(records X2 X3 K ∗ ownSt c (KF X2 c) (VF X3 c) q ∗ pre7 X2 X3 c
        ∗ ((allSt c (KF X2 c) (VF X3 c) q ∗ post7 X2 X3 c) -∗ Q ⟨k0_pay41 v80 (qry q 1 192) (ctr (KF X2 c) 1 3), k0_pay42 v80 (qry q 1 192) (ctr (KF X2 c) 1 3) (ctrV (VF X3 c) 1 3),
            k0_pay43 (half q 0 128 0), k0_pay44 v87 (half q 0 0 0) (side (KF X2 c) 0 0 256), side (KF X2 c) 0 0 384⟩))
      ⊢ wp frame (wpE (defs₀ (F := F)) 𝒱₀ c none) Set.univ
          (k0_part7 M0 h0 M1 h1 M2 h2 M3 h3 M4 h4 M5 h5 kM h6 vM h7 qM h8 wM h9 cc0_scratch4 cc0_scratch5 v2 (bitL c) (bitR c) v80 v87) Q := by
  simp only [k0_part7_eq_skeleton]; unfold k0_part7_skel
  simp only [Prog.lift, Prog.bind_op, Prog.bind_ret, Prog.pure_eq_ret, Prog.bind_assoc]
  unfold pre7
  iintro ⟨#HI, ⟨Hk, Hv, Hq⟩, ⟨⟨Ha0, Ha1, Ha2, Ha3⟩, ⟨Hp0, Hp1, Hp2, Hp3⟩, HO⟩, HQ⟩
  iapply (wp_load 𝒱₀ (c : Thread nD τ) none Set.univ (m := qM) (S := Finset.univ) (Finset.subset_univ _)) $$ Hq
  iintro Hq
  iapply (wp_load 𝒱₀ (c : Thread nD τ) none Set.univ (m := kM) (S := kM.view.setOn rOwn.set) (Finset.map_subset_map.2 (sub_own 1 3 _))) $$ Hk
  iintro Hk
  iapply (wp_load 𝒱₀ (c : Thread nD τ) none Set.univ (m := vM) (S := vM.view.setOn rOwn.set) (Finset.map_subset_map.2 (sub_own 1 3 _))) $$ Hv
  iintro Hv
  iapply (wp_waitIf X2 X3 K c (rcvS 0) (rcvS 1) (Rcv 0 c) (rcvPay X2 X3 0 c) (rcvPay X2 X3 1 c) (good_rcv X2 X3 0 c) (good_rcv X2 X3 1 c) (rcv_mem 0 c) (rcv_mem 1 c)
    (bitL_iff c) rfl rfl (dst₁ := kM.slice rL (fun _ => rfl)) (dst₂ := vM.slice rL (fun _ => rfl)) rfl rfl)
  isplitl [Ha0 Ha1 Hp0 Hp1 HO]
  · isplitr; · iexact HI
    isplitl [Ha0]; · iapply (Entails.of_eq (show awaited X2 X3 0 c = before (rcvCell 0 c) (Rcv 0 c) (rcvPay X2 X3 0 c) from rfl)); iexact Ha0
    isplitl [Ha1]; · iapply (Entails.of_eq (show awaited X2 X3 1 c = before (rcvCell 1 c) (Rcv 0 c) (rcvPay X2 X3 1 c) from rfl)); iexact Ha1
    isplitl [Hp0]; · iexact Hp0
    isplitl [Hp1]; · iexact Hp1
    iexact HO
  iintro ⟨HkL, HvL, Hd0, Hd1, HO⟩
  iapply (wp_waitIf X2 X3 K c (rcvS 2) (rcvS 3) (Rcv 2 c) (rcvPay X2 X3 2 c) (rcvPay X2 X3 3 c) (good_rcv X2 X3 2 c) (good_rcv X2 X3 3 c) (rcv_mem 2 c) (rcv_mem 3 c)
    (bitR_iff c) rfl rfl (dst₁ := kM.slice rR (fun _ => rfl)) (dst₂ := vM.slice rR (fun _ => rfl)) rfl rfl)
  isplitl [Ha2 Ha3 Hp2 Hp3 HO]
  · isplitr; · iexact HI
    isplitl [Ha2]; · iapply (Entails.of_eq (show awaited X2 X3 2 c = before (rcvCell 2 c) (Rcv 2 c) (rcvPay X2 X3 2 c) from rfl)); iexact Ha2
    isplitl [Ha3]; · iapply (Entails.of_eq (show awaited X2 X3 3 c = before (rcvCell 3 c) (Rcv 2 c) (rcvPay X2 X3 3 c) from rfl)); iexact Ha3
    isplitl [Hp2]; · iexact Hp2
    isplitl [Hp3]; · iexact Hp3
    iexact HO
  iintro ⟨HkR, HvR, Hd2, Hd3, HO⟩
  ihave HkL := (Entails.of_eq (show rcvPay X2 X3 0 c = kPts c rL fullShare (KF X2 c) from rfl)) $$ HkL
  ihave HvL := (Entails.of_eq (show rcvPay X2 X3 1 c = vPts c rL fullShare (VF X3 c) from rfl)) $$ HvL
  ihave HkR := (Entails.of_eq (show rcvPay X2 X3 2 c = kPts c rR fullShare (KF X2 c) from rfl)) $$ HkR
  ihave HvR := (Entails.of_eq (show rcvPay X2 X3 3 c = vPts c rR fullShare (VF X3 c) from rfl)) $$ HvR
  sl_exec
  sl_step
  iapply HQ
  isplitl [Hk Hv HkL HkR HvL HvR Hq]
  · isplitl [Hk]; · iexact Hk
    isplitl [Hv]; · iexact Hv
    isplitl [HkL]; · iexact HkL
    isplitl [HkR]; · iexact HkR
    isplitl [HvL]; · iexact HvL
    isplitl [HvR]; · iexact HvR
    iexact Hq
  unfold post7
  isplitr [HO]
  · isplitl [Hd0]; · iexact Hd0
    isplitl [Hd1]; · iexact Hd1
    isplitl [Hd2]; · iexact Hd2
    iexact Hd3
  iexact HO

/-! ## The whole body -/

/-- What the body starts from: its part of the records, the staged inputs, and all scratch buffers at contents not chosen. -/
def bodyPre (K : GSem nD τ sig → ℕ) (c : Dev nD) (x0 : Vec F S2x256x512 .f32) (x1 : Vec F S512x256 .f32) (x4 : Vec F S256x512 .f32) : sProp 𝕄 :=
  iprop(records X2 X3 K ∗ levAts L lv ∗ pre1 X2 X3 c
    ∗ (dutyTok ER (sndCell 1 c) 0 false ∗ reached ER (sndCell 1 c) 0 ∗ dutyTok ER (rcvCell 1 (peer 1 c)) 0 false)
    ∗ (dutyTok ER (sndCell 3 c) 0 false ∗ reached ER (sndCell 3 c) 0 ∗ dutyTok ER (rcvCell 3 (peer 3 c)) 0 false)
    ∗ (rcvCred 0 c ∗ rcvCred 1 c ∗ rcvCred 2 c ∗ rcvCred 3 c)
    ∗ (atPos ER (rcvCell 0 c) 0 ∅ 0 ∗ atPos ER (rcvCell 1 c) 0 ∅ 0 ∗ atPos ER (rcvCell 2 c) 0 ∅ 0 ∗ atPos ER (rcvCell 3 c) 0 ∅ 0)
    ∗ (atPos ER (sndCell 0 c) 0 ∅ 0 ∗ atPos ER (sndCell 1 c) 0 ∅ 0 ∗ atPos ER (sndCell 2 c) 0 ∅ 0 ∗ atPos ER (sndCell 3 c) 0 ∅ 0)
    ∗ (∃ f, vPts c rOwn fullShare f) ∗ (∃ f, qPts c f) ∗ (∃ f, buf c cc0_scratch3 f) ∗ (∃ o, oPts c o)
    ∗ buf c cc0_stg0_0 x0 ∗ buf c cc0_stg1_0 x1 ∗ buf c cc0_stg4_0 x4)

/-- All cells of device `c` at zero. -/
def zeros (c : Dev nD) : sProp 𝕄 :=
  iprop(semVal (barCell c) 0 ∗ (semVal (sndCell 0 c) 0 ∗ semVal (sndCell 1 c) 0 ∗ semVal (sndCell 2 c) 0 ∗ semVal (sndCell 3 c) 0)
    ∗ (semVal (rcvCell 0 c) 0 ∗ semVal (rcvCell 1 c) 0 ∗ semVal (rcvCell 2 c) 0 ∗ semVal (rcvCell 3 c) 0))

/-- What it ends with: the cells at zero, nothing owed, the result in its window. -/
def bodyPost (c : Dev nD) (x0 : Vec F S2x256x512 .f32) (x1 : Vec F S512x256 .f32) (x4 : Vec F S256x512 .f32) : sProp 𝕄 :=
  iprop(zeros c ∗ (∃ W, owes (c : Thread nD τ) 0 W)
    ∗ ((∃ f, buf c cc0_scratch0 f) ∗ (∃ f, buf c cc0_scratch1 f) ∗ (∃ f, buf c cc0_scratch2 f) ∗ ∃ f, buf c cc0_scratch3 f)
    ∗ buf c cc0_stg0_0 x0 ∗ buf c cc0_stg1_0 x1 ∗ buf c cc0_stg2_0 (X2 c) ∗ buf c cc0_stg3_0 (X3 c) ∗ buf c cc0_stg4_0 x4 ∗ buf c cc0_stg5_0 (outV X2 X3 c x0 x1 x4))

/-- Cells done with give their counters back. -/
theorem close_four (K : GSem nD τ sig → ℕ) (g : Fin 4 → GSem nD τ sig) (hg : ∀ k, g k ∈ (barCells ∪ scCells : Finset (GSem nD τ sig))) :
    iprop(records X2 X3 K ∗ done X2 X3 (g 0) ∗ done X2 X3 (g 1) ∗ done X2 X3 (g 2) ∗ done X2 X3 (g 3))
      ⊢ (|={Set.univ}=> iprop(semVal (g 0) 0 ∗ semVal (g 1) 0 ∗ semVal (g 2) 0 ∗ semVal (g 3) 0) : sProp 𝕄) := by
  iintro ⟨#HI, H0, H1, H2, H3⟩
  ihave #I0 := (inv_at X2 X3 K (hg 0)) $$ HI
  ihave #I1 := (inv_at X2 X3 K (hg 1)) $$ HI
  ihave #I2 := (inv_at X2 X3 K (hg 2)) $$ HI
  ihave #I3 := (inv_at X2 X3 K (hg 3)) $$ HI
  imod (close X2 X3 (K (g 0)) (g 0)) $$ [H0] with H0
  · isplitr; · iexact I0
    iexact H0
  imod (close X2 X3 (K (g 1)) (g 1)) $$ [H1] with H1
  · isplitr; · iexact I1
    iexact H1
  imod (close X2 X3 (K (g 2)) (g 2)) $$ [H2] with H2
  · isplitr; · iexact I2
    iexact H2
  imod (close X2 X3 (K (g 3)) (g 3)) $$ [H3] with H3
  · isplitr; · iexact I3
    iexact H3
  imodintro
  isplitl [H0]; · iexact H0
  isplitl [H1]; · iexact H1
  isplitl [H2]; · iexact H2
  iexact H3

set_option maxHeartbeats 4000000 in
set_option maxRecDepth 4000 in
/-- One device's run of the body. -/
theorem body_run (K : GSem nD τ sig → ℕ) (c : Dev nD) (x0 : Vec F S2x256x512 .f32) (x1 : Vec F S512x256 .f32) (x4 : Vec F S256x512 .f32) {Q : PUnit → sProp 𝕄} :
    iprop(bodyPre X2 X3 K c x0 x1 x4 ∗ (bodyPost X2 X3 c x0 x1 x4 -∗ Q ⟨⟩))
      ⊢ wp frame (wpE (defs₀ (F := F)) 𝒱₀ c none) Set.univ
          (cc0_body M0 h0 M1 h1 M2 h2 M3 h3 M4 h4 M5 h5 kM h6 vM h7 qM h8 wM h9 cc0_scratch4 cc0_scratch5) Q := by
  rw [cc0_body_eq_skeleton]; unfold cc0_body_skel
  unfold bodyPre
  iintro ⟨⟨#HI, #Hlev, Hp1, Ht1, Ht3, ⟨Hc0, Hc1, Hc2, Hc3⟩, HaR, ⟨Hs0, Hs1, Hs2, Hs3⟩, Hv, Hq, Hw, Ho, Hx0, Hx1, Hx4⟩, HQ⟩
  rw [wp_bind]
  iapply (run1 X2 X3 K c)
  isplitr; · iexact HI
  isplitr; · iexact Hlev
  isplitl [Hp1]; · iexact Hp1
  unfold post1
  iintro ⟨HO, Hk0, Hk1, Hk2, Hk3, Hg1, Hg3, HdB, Hk, Hl0, Hl2, Hx2, Hx3⟩
  dsimp only
  rw [wp_bind]
  iapply (run2 X2 X3 K c x0 x1 x4)
  isplitr; · iexact HI
  isplitl [HO Hv Hk0 Hk1 Hk2 Hk3 Hg1 Ht1 Hg3 Ht3 Hx4 Hx1 Hx0 Hw]
  · unfold pre2 toSend
    isplitl [HO]; · iexact HO
    isplitl [Hv]; · iexact Hv
    isplitl [Hk0 Hk1]; · isplitl [Hk0] <;> iassumption
    isplitl [Hk2 Hk3]; · isplitl [Hk2] <;> iassumption
    isplitl [Hg1 Ht1]; · isplitl [Hg1] <;> iassumption
    isplitl [Hg3 Ht3]; · isplitl [Hg3] <;> iassumption
    isplitl [Hx4]; · iexact Hx4
    isplitl [Hx1]; · iexact Hx1
    isplitl [Hx0]; · iexact Hx0
    iexact Hw
  unfold post2
  iintro ⟨HO, Hv, ⟨Hf0, Hf1⟩, ⟨Hf2, Hf3⟩, Hl1, Hl3, Hx4, Hx1, Hx0, Hw⟩
  dsimp only
  rw [wp_bind]
  iapply (run3 c x0)
  isplitl [Hq]; · iexact Hq
  isplitl [Hx0]; · iexact Hx0
  iintro ⟨Hq, Hx0⟩
  dsimp only
  rw [wp_bind]
  iapply (run4 c (KF X2 c) (VF X3 c) (qv x0 x1))
  isplitl [Hk Hv Hq]
  · isplitl [Hk]; · iexact Hk
    isplitl [Hv]; · iexact Hv
    iexact Hq
  iintro HS
  dsimp only
  rw [wp_bind]
  iapply (run5 c (KF X2 c) (VF X3 c) (qv x0 x1))
  isplitl [HS]; · iexact HS
  iintro HS
  dsimp only
  rw [wp_bind]
  iapply (run6 c (KF X2 c) (VF X3 c) (qv x0 x1))
  isplitl [HS]; · iexact HS
  iintro HS
  dsimp only
  rw [wp_bind]
  iapply (run7 X2 X3 K c (qv x0 x1))
  isplitr; · iexact HI
  isplitl [HS]; · iexact HS
  isplitl [Hf0 Hf1 Hf2 Hf3 Hc0 Hc1 Hc2 Hc3 HaR HO]
  · unfold pre7
    isplitl [Hf0 Hf1 Hf2 Hf3 Hc0 Hc1 Hc2 Hc3]
    · isplitl [Hf0 Hc0]; · iapply (to_await X2 X3 0 c); isplitl [Hf0] <;> iassumption
      isplitl [Hf1 Hc1]; · iapply (to_await X2 X3 1 c); isplitl [Hf1] <;> iassumption
      isplitl [Hf2 Hc2]; · iapply (to_await X2 X3 2 c); isplitl [Hf2] <;> iassumption
      iapply (to_await X2 X3 3 c); isplitl [Hf3] <;> iassumption
    isplitl [HaR]; · iexact HaR
    iexact HO
  unfold post7
  iintro ⟨HS, HdR, HO⟩
  dsimp only
  rw [wp_bind]
  iapply (run8 c (KF X2 c) (VF X3 c) (qv x0 x1))
  isplitl [HS]; · iexact HS
  iintro HS
  dsimp only
  rw [wp_bind]
  iapply (run9 c (KF X2 c) (VF X3 c) (qv x0 x1))
  isplitl [HS]; · iexact HS
  iintro HS
  dsimp only
  rw [wp_bind]
  iapply (run10 c (KF X2 c) (VF X3 c) (qv x0 x1))
  isplitl [HS]; · iexact HS
  iintro HS
  dsimp only
  rw [wp_bind]
  iapply (run11 c (KF X2 c) (VF X3 c) (qv x0 x1) (k0_pay9 x4))
  isplitl [HS]; · iexact HS
  isplitl [Hw]; · iexact Hw
  isplitl [Ho]; · iexact Ho
  iintro ⟨HS, Hw, ⟨%o, Ho⟩⟩
  rw [wp_bind]
  iapply (run12 c (KF X2 c) (VF X3 c) (qv x0 x1))
  isplitl [HS]; · iexact HS
  iintro HS
  dsimp only
  rw [wp_bind]
  iapply (run13 c (KF X2 c) (VF X3 c) (qv x0 x1))
  isplitl [HS]; · iexact HS
  iintro HS
  dsimp only
  rw [wp_bind]
  iapply (run14 c (KF X2 c) (VF X3 c) (qv x0 x1))
  isplitl [HS]; · iexact HS
  iintro HS
  dsimp only
  rw [wp_bind]
  iapply (run15 c (KF X2 c) (VF X3 c) (qv x0 x1))
  isplitl [HS]; · iexact HS
  iintro ⟨Hk, Hv, HkL, HkR, HvL, HvR, Hq⟩
  simp only [Prog.lift, Prog.bind_op, Prog.bind_ret, Prog.pure_eq_ret, Prog.bind_assoc]
  iapply (wp_load 𝒱₀ (c : Thread nD τ) none Set.univ (m := wM) (S := Finset.univ) (Finset.subset_univ _)) $$ Hw
  iintro Hw
  rw [readW]
  iapply (wp_load 𝒱₀ (c : Thread nD τ) none Set.univ (m := M5) (S := Finset.univ) (Finset.subset_univ _)) $$ Ho
  iintro Ho
  iapply (wp_store 𝒱₀ (c : Thread nD τ) none Set.univ (m := M5) (r := Rect.unit (s := S2x256x512) ![1, 0, 0] S1x256x512.size inb_S2x256x512_S1x256x512_1_0_0)
    (S := Finset.univ) (Finset.subset_univ _)) $$ Ho
  iintro Ho
  ihave Ho := (Entails.of_eq (congrArg (oPts c) (putO_two o _ _))) $$ Ho
  iapply (wp_waitIf X2 X3 K c (sndS 0) (sndS 1) (Snd 0 c) (sndPay X2 X3 0 c) (sndPay X2 X3 1 c) (good_snd X2 X3 0 c) (good_snd X2 X3 1 c) (snd_mem 0 c) (snd_mem 1 c)
    (bitR_iff c) rfl rfl (dst₁ := kM.slice rHi (fun _ => rfl)) (dst₂ := vM.slice rHi (fun _ => rfl)) rfl rfl)
  isplitl [Hl0 Hl1 Hs0 Hs1 HO]
  · isplitr; · iexact HI
    isplitl [Hl0]; · iapply (Entails.of_eq (show lent X2 X3 0 c = before (sndCell 0 c) (Snd 0 c) (sndPay X2 X3 0 c) from rfl)); iexact Hl0
    isplitl [Hl1]; · iapply (Entails.of_eq (show lent X2 X3 1 c = before (sndCell 1 c) (Snd 0 c) (sndPay X2 X3 1 c) from rfl)); iexact Hl1
    isplitl [Hs0]; · iexact Hs0
    isplitl [Hs1]; · iexact Hs1
    iexact HO
  iintro ⟨HkH, HvH, Hd0, Hd1, HO⟩
  iapply (wp_waitIf X2 X3 K c (sndS 2) (sndS 3) (Snd 2 c) (sndPay X2 X3 2 c) (sndPay X2 X3 3 c) (good_snd X2 X3 2 c) (good_snd X2 X3 3 c) (snd_mem 2 c) (snd_mem 3 c)
    (bitL_iff c) rfl rfl (dst₁ := kM.slice rLo (fun _ => rfl)) (dst₂ := vM.slice rLo (fun _ => rfl)) rfl rfl)
  isplitl [Hl2 Hl3 Hs2 Hs3 HO]
  · isplitr; · iexact HI
    isplitl [Hl2]; · iapply (Entails.of_eq (show lent X2 X3 2 c = before (sndCell 2 c) (Snd 2 c) (sndPay X2 X3 2 c) from rfl)); iexact Hl2
    isplitl [Hl3]; · iapply (Entails.of_eq (show lent X2 X3 3 c = before (sndCell 3 c) (Snd 2 c) (sndPay X2 X3 3 c) from rfl)); iexact Hl3
    isplitl [Hs2]; · iexact Hs2
    isplitl [Hs3]; · iexact Hs3
    iexact HO
  iintro ⟨HkO, HvO, Hd2, Hd3, HO⟩
  rw [wp_ret]
  ihave #IB := (inv_at X2 X3 K (bar_mem c)) $$ HI
  imod (close X2 X3 (K (barCell c)) (barCell c)) $$ [HdB] with HzB
  · isplitr; · iexact IB
    iexact HdB
  imod (close_four X2 X3 K (fun k => rcvCell k c) (fun k => rcv_mem k c)) $$ [HdR] with HzR
  · isplitr; · iexact HI
    iexact HdR
  imod (close_four X2 X3 K (fun k => sndCell k c) (fun k => snd_mem k c)) $$ [Hd0 Hd1 Hd2 Hd3] with HzS
  · isplitr; · iexact HI
    isplitl [Hd0]; · iexact Hd0
    isplitl [Hd1]; · iexact Hd1
    isplitl [Hd2]; · iexact Hd2
    iexact Hd3
  imodintro
  iapply HQ
  unfold bodyPost zeros
  isplitl [HzB HzR HzS]
  · isplitl [HzB]; · iexact HzB
    isplitl [HzS]; · iexact HzS
    iexact HzR
  isplitl [HO]; · iexact HO
  isplitl [Hk HkO HkH HkL HkR Hv HvO HvH HvL HvR Hq Hw]
  · isplitl [Hk HkO HkH HkL HkR]
    · iexists (KF X2 c)
      iapply (k_split c (KF X2 c)).2
      isplitr [HkL HkR]
      · iapply (k_lend c (KF X2 c)).2
        isplitl [Hk]; · iexact Hk
        isplitl [HkO]; · iapply (Entails.of_eq (show sndPay X2 X3 2 c = kPts c rLo fullShare.right (KF X2 c) from rfl)); iexact HkO
        iapply (Entails.of_eq (show sndPay X2 X3 0 c = kPts c rHi fullShare.right (KF X2 c) from rfl)); iexact HkH
      isplitl [HkL]; · iexact HkL
      iexact HkR
    isplitl [Hv HvO HvH HvL HvR]
    · iexists (VF X3 c)
      iapply (v_split c (VF X3 c)).2
      isplitr [HvL HvR]
      · iapply (v_lend c (VF X3 c)).2
        isplitl [Hv]; · iexact Hv
        isplitl [HvO]; · iapply (Entails.of_eq (show sndPay X2 X3 3 c = vPts c rLo fullShare.right (VF X3 c) from rfl)); iexact HvO
        iapply (Entails.of_eq (show sndPay X2 X3 1 c = vPts c rHi fullShare.right (VF X3 c) from rfl)); iexact HvH
      isplitl [HvL]; · iexact HvL
      iexact HvR
    isplitl [Hq]; · iexists (qv x0 x1); iexact Hq
    iexists (k0_pay9 x4); iexact Hw
  isplitl [Hx0]; · iexact Hx0
  isplitl [Hx1]; · iexact Hx1
  isplitl [Hx2]; · iexact Hx2
  isplitl [Hx3]; · iexact Hx3
  isplitl [Hx4]; · iexact Hx4
  iexact Ho

end Cert.KernelIdeal.Halo

end
-- ==== Proof.Region.lean ====
/-
  The kernel as a region of the program: the proof data of its one point, its obligation discharged by the body's run, and the
  record that the program's run takes. The region is entered with the kernel's own cells not yet open, opens them with the counters
  the entry hands over, and leaves every cell closed at zero.
-/
module

public import proofs.«01_k».proof.Proof.Body
public import proofs.«01_k».proof.Proof.Gen.KernelIdeal.Frame
public import Idealize.ShloMosaic.Lib.Pipeline.RegionTalk

@[expose] public section

noncomputable section

namespace Cert.KernelIdeal.Halo

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the windows stage -/

/-- The staged activations of device `c`. -/
abbrev in0 (c : Dev nD) : Vec F S2x256x512 .f32 := iblk m c 0 t0_0
/-- The staged query weights. -/
abbrev in1 (c : Dev nD) : Vec F S512x256 .f32 := iblk m c 1 t0_0
/-- The staged transposed keys. -/
abbrev in2 (c : Dev nD) : Vec F S2x4x64x256 .f32 := iblk m c 2 t0_0
/-- The staged transposed values. -/
abbrev in3 (c : Dev nD) : Vec F S2x4x64x256 .f32 := iblk m c 3 t0_0
/-- The staged output weights. -/
abbrev in4 (c : Dev nD) : Vec F S256x512 .f32 := iblk m c 4 t0_0
/-- What the kernel leaves in its result's window. -/
abbrev out (c : Dev nD) : Vec F S2x256x512 .bf16 := outV (in2 m) (in3 m) c (in0 m c) (in1 m c) (in4 m c)

/-! ## The invariant at the point's two ends -/

/-- The four scratches, at contents not chosen. -/
def scratches (c : Dev nD) : sProp 𝕄 :=
  iprop((∃ f, buf c cc0_scratch0 f) ∗ (∃ f, buf c cc0_scratch1 f) ∗ (∃ f, buf c cc0_scratch2 f) ∗ ∃ f, buf c cc0_scratch3 f)

/-- The tokens of the payments device `c` makes. -/
def toks (c : Dev nD) : sProp 𝕄 :=
  iprop((dutyTok ER (sndCell 0 c) 0 false ∗ dutyTok ER (sndCell 1 c) 0 false ∗ dutyTok ER (sndCell 2 c) 0 false ∗ dutyTok ER (sndCell 3 c) 0 false)
    ∗ (dutyTok ER (rcvCell 0 (peer 0 c)) 0 false ∗ dutyTok ER (rcvCell 1 (peer 1 c)) 0 false ∗ dutyTok ER (rcvCell 2 (peer 2 c)) 0 false
      ∗ dutyTok ER (rcvCell 3 (peer 3 c)) 0 false)
    ∗ (dutyTok ER (barCell (tgt1 c)) 0 (d1 c) ∗ dutyTok ER (barCell (tgt2 c)) 0 (d2 c)))

/-- The credits device `c` waits with. -/
def creds (c : Dev nD) : sProp 𝕄 :=
  iprop(cred (tallyAt (barCell c) () 2) ∗ (rcvCred 0 c ∗ rcvCred 1 c ∗ rcvCred 2 c ∗ rcvCred 3 c))

/-- Four cells open: the owner's position on each, each in its round 0. -/
def four (g : Fin 4 → GSem nD τ sig) : sProp 𝕄 :=
  iprop((atPos ER (g 0) 0 ∅ 0 ∗ atPos ER (g 1) 0 ∅ 0 ∗ atPos ER (g 2) 0 ∅ 0 ∗ atPos ER (g 3) 0 ∅ 0)
    ∗ (reached ER (g 0) 0 ∗ reached ER (g 1) 0 ∗ reached ER (g 2) 0 ∗ reached ER (g 3) 0))

/-- What the launch keeps for the region: the records, the barrier position, the rights to open the own cells, tokens and credits. -/
def Tk (c : Dev nD) : sProp 𝕄 :=
  iprop(∃ K, records (in2 m) (in3 m) K ∗ atPos ER (barCell c) 0 ∅ 0
    ∗ ((openTok ER (sndCell 0 c) ∗ openTok ER (sndCell 1 c) ∗ openTok ER (sndCell 2 c) ∗ openTok ER (sndCell 3 c))
      ∗ (openTok ER (rcvCell 0 c) ∗ openTok ER (rcvCell 1 c) ∗ openTok ER (rcvCell 2 c) ∗ openTok ER (rcvCell 3 c)))
    ∗ toks c ∗ creds c)

/-- The same with the own cells open, and the levels. -/
def Xk (c : Dev nD) : sProp 𝕄 :=
  iprop(∃ K, records (in2 m) (in3 m) K ∗ levAts L lv ∗ atPos ER (barCell c) 0 ∅ 0
    ∗ (four (fun k => sndCell k c) ∗ four (fun k => rcvCell k c)) ∗ toks c ∗ creds c)

def Φ₀ (c : Dev nD) : sProp 𝕄 := iprop(Xk m c ∗ scratches c ∗ ∃ r, prngReg c r)
def Φ₁ (c : Dev nD) : sProp 𝕄 := iprop(zeros c ∗ scratches c ∗ ∃ r, prngReg c r)

/-- The region's proof data. -/
def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- What a device owes when the call begins, -/
theorem owed_zero (c : Dev nD) : (pdats (F := F) m 0 c).owed 0 = O₀ c := by
  show (if ((0 : Fin (cfg0.N + 1)).val = 0) then O₀ c else 0) = O₀ c; exact if_pos rfl
/-- which is what it owes at the one point, -/
theorem owed_first (c : Dev nD) : (dat0 (F := F) m c).owed t0_0.castSucc = O₀ c := by
  show (if (t0_0.castSucc : Fin (cfg0.N + 1)).val = 0 then O₀ c else 0) = O₀ c; exact if_pos rfl
/-- and after it nothing. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- A device owing `O` meets what the data ask at a point where they say `O`, -/
theorem owesAt_intro {c : Dev nD} (dat : Dat τ (Elt F) Unit ℕ UU ℕ cfg0 c) (t : Fin (cfg0.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
/-- and the converse. -/
theorem owesAt_elim {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- An input's staging buffer is found at the block fetched from its array. -/
theorem before_in (c : Dev nD) : (∀ d, (dat0 (F := F) m c).before 0 t0_0 d = in0 m c) ∧ (∀ d, (dat0 (F := F) m c).before 1 t0_0 d = in1 m c)
    ∧ (∀ d, (dat0 (F := F) m c).before 2 t0_0 d = in2 m c) ∧ (∀ d, (dat0 (F := F) m c).before 3 t0_0 d = in3 m c)
    ∧ (∀ d, (dat0 (F := F) m c).before 4 t0_0 d = in4 m c) := by
  refine ⟨fun d => ?_, fun d => ?_, fun d => ?_, fun d => ?_, fun d => ?_⟩
  · unfold Dat.before; rw [if_pos (fetch0_0 t0_0)]; rfl
  · unfold Dat.before; rw [if_pos (fetch0_1 t0_0)]; rfl
  · unfold Dat.before; rw [if_pos (fetch0_2 t0_0)]; rfl
  · unfold Dat.before; rw [if_pos (fetch0_3 t0_0)]; rfl
  · unfold Dat.before; rw [if_pos (fetch0_4 t0_0)]; rfl

/-- A staging buffer found at the contents `f`. -/
abbrev found (c : Dev nD) (b : Ref sig .tc) (f : Buf (Elt F) ((c : Thread nD τ).loc b)) : sProp 𝕄 :=
  iprop(∃ g : Buf (Elt F) ((c : Thread nD τ).loc b), ⌜g = f⌝ ∗ (c : Thread nD τ).loc b ↦{fullShare} g)

omit [FloatOps F] in
theorem found_intro (c : Dev nD) (b : Ref sig .tc) (f : Buf (Elt F) ((c : Thread nD τ).loc b)) : (buf c b f : sProp 𝕄) ⊢ found c b f := by
  iintro H; iexists f; isplitr; · ipureintro; rfl
  iexact H

/-- The point's start, window by window. -/
def pointPre (c : Dev nD) : sProp 𝕄 :=
  iprop(Φ₀ m c ∗ (dat0 m c).owesAt () t0_0.castSucc
    ∗ (∃ d, found c cc0_stg0_0 ((dat0 m c).before 0 t0_0 d)) ∗ (∃ d, found c cc0_stg1_0 ((dat0 m c).before 1 t0_0 d))
    ∗ (∃ d, found c cc0_stg2_0 ((dat0 m c).before 2 t0_0 d)) ∗ (∃ d, found c cc0_stg3_0 ((dat0 m c).before 3 t0_0 d))
    ∗ (∃ d, found c cc0_stg4_0 ((dat0 m c).before 4 t0_0 d)) ∗ (∃ d, found c cc0_stg5_0 ((dat0 m c).before 5 t0_0 d)))

/-- The point's end. -/
def pointPost (c : Dev nD) : sProp 𝕄 :=
  iprop(Φ₁ c ∗ (dat0 m c).owesAt () t0_0.succ
    ∗ found c cc0_stg0_0 (in0 m c) ∗ found c cc0_stg1_0 (in1 m c) ∗ found c cc0_stg2_0 (in2 m c) ∗ found c cc0_stg3_0 (in3 m c)
    ∗ found c cc0_stg4_0 (in4 m c) ∗ found c cc0_stg5_0 (out m c))

/-- The staged inputs, taken out of what the point starts from. -/
theorem found_inputs (c : Dev nD) :
    iprop((∃ d, found c cc0_stg0_0 ((dat0 m c).before 0 t0_0 d)) ∗ (∃ d, found c cc0_stg1_0 ((dat0 m c).before 1 t0_0 d))
      ∗ (∃ d, found c cc0_stg2_0 ((dat0 m c).before 2 t0_0 d)) ∗ (∃ d, found c cc0_stg3_0 ((dat0 m c).before 3 t0_0 d))
      ∗ (∃ d, found c cc0_stg4_0 ((dat0 m c).before 4 t0_0 d)) ∗ (∃ d, found c cc0_stg5_0 ((dat0 m c).before 5 t0_0 d)))
    ⊢ iprop(buf c cc0_stg0_0 (in0 m c) ∗ buf c cc0_stg1_0 (in1 m c) ∗ buf c cc0_stg2_0 (in2 m c) ∗ buf c cc0_stg3_0 (in3 m c)
      ∗ buf c cc0_stg4_0 (in4 m c) ∗ ∃ o, oPts c o : sProp 𝕄) := by
  obtain ⟨h0, h1, h2, h3, h4⟩ := before_in m c
  iintro ⟨⟨%d0, %g0, %e0, H0⟩, ⟨%d1, %g1, %e1, H1⟩, ⟨%d2, %g2, %e2, H2⟩, ⟨%d3, %g3, %e3, H3⟩, ⟨%d4, %g4, %e4, H4⟩, ⟨%d5, %g5, -, H5⟩⟩
  isplitl [H0]; · rw [← h0 d0, ← e0]; iexact H0
  isplitl [H1]; · rw [← h1 d1, ← e1]; iexact H1
  isplitl [H2]; · rw [← h2 d2, ← e2]; iexact H2
  isplitl [H3]; · rw [← h3 d3, ← e3]; iexact H3
  isplitl [H4]; · rw [← h4 d4, ← e4]; iexact H4
  iexists g5; iexact H5

/-- A key scratch comes apart into the own columns and the two slots; -/
theorem k_parts (c : Dev nD) : iprop(∃ f, buf c cc0_scratch0 f) ⊢ (iprop((∃ f, kPts c rOwn fullShare f) ∗ (∃ f, slot 0 c f) ∗ ∃ f, slot 2 c f) : sProp 𝕄) := by
  iintro ⟨%f, H⟩
  ihave H := (k_split c f).1 $$ H
  icases H with ⟨H0, H1, H2⟩
  isplitl [H0]; · iexists f; iexact H0
  isplitl [H1]
  · iexists f; iapply (Entails.of_eq (show kPts c rL fullShare f = slot 0 c f from rfl)); iexact H1
  · iexists f; iapply (Entails.of_eq (show kPts c rR fullShare f = slot 2 c f from rfl)); iexact H2
/-- so does a value scratch. -/
theorem v_parts (c : Dev nD) : iprop(∃ f, buf c cc0_scratch1 f) ⊢ (iprop((∃ f, vPts c rOwn fullShare f) ∗ (∃ f, slot 1 c f) ∗ ∃ f, slot 3 c f) : sProp 𝕄) := by
  iintro ⟨%f, H⟩
  ihave H := (v_split c f).1 $$ H
  icases H with ⟨H0, H1, H2⟩
  isplitl [H0]; · iexists f; iexact H0
  isplitl [H1]
  · iexists f; iapply (Entails.of_eq (show vPts c rL fullShare f = slot 1 c f from rfl)); iexact H1
  · iexists f; iapply (Entails.of_eq (show vPts c rR fullShare f = slot 3 c f from rfl)); iexact H2

/-- The point starts with what the body's run takes, under some map of names. -/
theorem point_start (c : Dev nD) :
    pointPre m c ⊢ (iprop((∃ K, bodyPre (in2 m) (in3 m) K c (in0 m c) (in1 m c) (in4 m c)) ∗ ∃ r, prngReg c r) : sProp 𝕄) := by
  unfold pointPre Φ₀ Xk scratches four toks creds
  iintro ⟨⟨⟨%K, HI, Hlev, HaB, ⟨⟨⟨HaS0, HaS1, HaS2, HaS3⟩, ⟨HrS0, HrS1, HrS2, HrS3⟩⟩, ⟨⟨HaR0, HaR1, HaR2, HaR3⟩, ⟨HrR0, HrR1, HrR2, HrR3⟩⟩⟩,
    ⟨⟨HtS0, HtS1, HtS2, HtS3⟩, ⟨HtR0, HtR1, HtR2, HtR3⟩, ⟨HtB1, HtB2⟩⟩, ⟨HcB, HcR⟩⟩, ⟨Hk, Hv, Hq, Hw⟩, Hp⟩, HO, Hst⟩
  ihave HO := (owesAt_elim (dat0 m c) _ (O₀ c) (owed_first m c)) $$ HO
  ihave Hst := (found_inputs m c) $$ Hst
  icases Hst with ⟨H0, H1, H2, H3, H4, H5⟩
  ihave Hk := (k_parts c) $$ Hk
  icases Hk with ⟨Hk, Hk0, Hk2⟩
  ihave Hv := (v_parts c) $$ Hv
  icases Hv with ⟨Hv, Hv1, Hv3⟩
  isplitr [Hp]; swap; · iexact Hp
  iexists K
  unfold bodyPre pre1
  isplitl [HI]; · iexact HI
  isplitl [Hlev]; · iexact Hlev
  isplitl [HO HtB1 HtB2 Hk0 Hv1 HrR0 HrR1 Hk2 Hv3 HrR2 HrR3 HcB HaB Hk H2 H3 HtS0 HrS0 HtR0 HtS2 HrS2 HtR2]
  · isplitl [HO]; · iexact HO
    isplitl [HtB1]; · iexact HtB1
    isplitl [HtB2]; · iexact HtB2
    isplitl [Hk0 Hv1 HrR0 HrR1]
    · isplitl [Hk0]; · iexact Hk0
      isplitl [Hv1]; · iexact Hv1
      isplitl [HrR0] <;> iassumption
    isplitl [Hk2 Hv3 HrR2 HrR3]
    · isplitl [Hk2]; · iexact Hk2
      isplitl [Hv3]; · iexact Hv3
      isplitl [HrR2] <;> iassumption
    isplitl [HcB]; · iexact HcB
    isplitl [HaB]; · iexact HaB
    isplitl [Hk]; · iexact Hk
    isplitl [H2]; · iexact H2
    isplitl [H3]; · iexact H3
    isplitl [HtS0 HrS0 HtR0]
    · isplitl [HtS0]; · iexact HtS0
      isplitl [HrS0] <;> iassumption
    isplitl [HtS2]; · iexact HtS2
    isplitl [HrS2] <;> iassumption
  isplitl [HtS1 HrS1 HtR1]
  · isplitl [HtS1]; · iexact HtS1
    isplitl [HrS1] <;> iassumption
  isplitl [HtS3 HrS3 HtR3]
  · isplitl [HtS3]; · iexact HtS3
    isplitl [HrS3] <;> iassumption
  isplitl [HcR]; · iexact HcR
  isplitl [HaR0 HaR1 HaR2 HaR3]
  · isplitl [HaR0]; · iexact HaR0
    isplitl [HaR1]; · iexact HaR1
    isplitl [HaR2] <;> iassumption
  isplitl [HaS0 HaS1 HaS2 HaS3]
  · isplitl [HaS0]; · iexact HaS0
    isplitl [HaS1]; · iexact HaS1
    isplitl [HaS2] <;> iassumption
  isplitl [Hv]; · iexact Hv
  isplitl [Hq]; · iexact Hq
  isplitl [Hw]; · iexact Hw
  isplitl [H5]; · iexact H5
  isplitl [H0]; · iexact H0
  isplitl [H1] <;> iassumption

/-- And the body's run ends with what the point must leave. -/
theorem point_end (c : Dev nD) :
    iprop(bodyPost (in2 m) (in3 m) c (in0 m c) (in1 m c) (in4 m c) ∗ ∃ r, prngReg c r) ⊢ (pointPost m c : sProp 𝕄) := by
  unfold bodyPost pointPost Φ₁ scratches
  iintro ⟨⟨Hz, HO, Hs, H0, H1, H2, H3, H4, H5⟩, Hp⟩
  isplitl [Hz Hs Hp]
  · isplitl [Hz]; · iexact Hz
    isplitl [Hs] <;> iassumption
  isplitl [HO]; · iapply (owesAt_intro (dat0 m c) t0_0.succ 0 (owed_last m c) rfl); iexact HO
  isplitl [H0]; · iapply (found_intro c cc0_stg0_0 _); iexact H0
  isplitl [H1]; · iapply (found_intro c cc0_stg1_0 _); iexact H1
  isplitl [H2]; · iapply (found_intro c cc0_stg2_0 _); iexact H2
  isplitl [H3]; · iapply (found_intro c cc0_stg3_0 _); iexact H3
  isplitl [H4]; · iapply (found_intro c cc0_stg4_0 _); iexact H4
  iapply (found_intro c cc0_stg5_0 _); iexact H5

set_option maxRecDepth 4000 in
theorem body_obligation (c : Dev nD) : BodyObligation (dat0 (F := F) m c) (defs₀ (F := F)) 𝒱₀ () Set.univ := fun t => by
  rw [fin_N0 t]
  rw [bigSep_W0, bigSep_W0]
  simp only [owns_whole_eq]
  show pointPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5) (fun _ => pointPost m c)
  refine (point_start m c).trans ?_
  iintro ⟨⟨%K, H⟩, Hp⟩
  iapply (body_run (in2 m) (in3 m) K c (in0 m c) (in1 m c) (in4 m c))
  isplitl [H]; · iexact H
  iintro H
  iapply (point_end m c)
  isplitl [H] <;> iassumption

/-! ## The program's two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The arrays of the program. -/
def bufs : Finset (DevRef τ sig) := (StableHlo.tcRefs τ sig).filter fun b => ¬ b.isScoped

/-- Those no window stages. -/
abbrev side2 : Finset (DevRef τ sig) := bufs \ Pipeline.arrRefs (τ := τ) spec0

/-- The windows' arrays are among the buffers, -/
theorem arrs_sub : Pipeline.arrRefs (τ := τ) spec0 ⊆ bufs := by decide

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The arrays at the program's start, -/
abbrev W₀ (c : Dev nD) : Valuation τ sig (Elt F) := fun b => m (c, b)
/-- at the region's entry, -/
abbrev W₁ (c : Dev nD) : Valuation τ sig (Elt F) := StableHlo.after hostOps0 (W₀ m c)
/-- and at its exit: the result's array rewritten. -/
abbrev W₂ (c : Dev nD) : Valuation τ sig (Elt F) := Function.update (W₁ m c) (Proc.devRef .tc main_v3) ((dat0 m c).arrAt 5 cfg0.N)

/-- What rides from the program's start to the region. -/
def riding (c : Dev nD) : sProp 𝕄 := iprop(Tk m c ∗ (∃ r, prngReg c r) ∗ ∃ W, owes (c : Thread nD τ) (O₀ c) W)

/-- and so are the host operations'. -/
theorem ops0_sub : ∀ op ∈ (hostOps0 : List (HloOp τ sig (Elt F))), op.bufs ⊆ bufs := fun op h => by
  rcases List.mem_cons.1 h with rfl | h
  · show ({Proc.devRef .tc main_arg2, Proc.devRef .tc main_v1} : Finset (DevRef τ sig)) ⊆ bufs; decide
  · obtain rfl := List.mem_singleton.mp h
    show ({Proc.devRef .tc main_arg3, Proc.devRef .tc main_v2} : Finset (DevRef τ sig)) ⊆ bufs; decide

/-- The two transposes. -/
def seg0 : ℍ := Pipeline.HostSeg.ofOps _ _ _ _ _ bufs (hostOps0 (F := F)) ops0_sub (List.forall_iff_forall_mem.mp hostOps0_fresh) (W₀ m) (riding m)

/-- Four cells opened with their counters. -/
theorem open_four (K : GSem nD τ sig → ℕ) (g : Fin 4 → GSem nD τ sig) (hg : ∀ k, g k ∈ (barCells ∪ scCells : Finset (GSem nD τ sig))) :
    iprop(records (in2 m) (in3 m) K ∗ (openTok ER (g 0) ∗ openTok ER (g 1) ∗ openTok ER (g 2) ∗ openTok ER (g 3))
        ∗ (semVal (g 0) 0 ∗ semVal (g 1) 0 ∗ semVal (g 2) 0 ∗ semVal (g 3) 0))
      ⊢ (|={Set.univ}=> four g : sProp 𝕄) := by
  iintro ⟨#HI, ⟨Ho0, Ho1, Ho2, Ho3⟩, ⟨Hz0, Hz1, Hz2, Hz3⟩⟩
  ihave #I0 := (inv_at (in2 m) (in3 m) K (hg 0)) $$ HI
  ihave #I1 := (inv_at (in2 m) (in3 m) K (hg 1)) $$ HI
  ihave #I2 := (inv_at (in2 m) (in3 m) K (hg 2)) $$ HI
  ihave #I3 := (inv_at (in2 m) (in3 m) K (hg 3)) $$ HI
  imod (Rounds.cell_open ER (haloRd (in2 m) (in3 m)) (g := g 0) (Set.mem_univ (K (g 0)))) $$ [Ho0 Hz0] with ⟨Ha0, Hr0⟩
  · isplitr; · iexact I0
    isplitl [Ho0] <;> iassumption
  imod (Rounds.cell_open ER (haloRd (in2 m) (in3 m)) (g := g 1) (Set.mem_univ (K (g 1)))) $$ [Ho1 Hz1] with ⟨Ha1, Hr1⟩
  · isplitr; · iexact I1
    isplitl [Ho1] <;> iassumption
  imod (Rounds.cell_open ER (haloRd (in2 m) (in3 m)) (g := g 2) (Set.mem_univ (K (g 2)))) $$ [Ho2 Hz2] with ⟨Ha2, Hr2⟩
  · isplitr; · iexact I2
    isplitl [Ho2] <;> iassumption
  imod (Rounds.cell_open ER (haloRd (in2 m) (in3 m)) (g := g 3) (Set.mem_univ (K (g 3)))) $$ [Ho3 Hz3] with ⟨Ha3, Hr3⟩
  · isplitr; · iexact I3
    isplitl [Ho3] <;> iassumption
  imodintro
  unfold four
  isplitl [Ha0 Ha1 Ha2 Ha3]
  · isplitl [Ha0]; · iexact Ha0
    isplitl [Ha1]; · iexact Ha1
    isplitl [Ha2] <;> iassumption
  isplitl [Hr0]; · iexact Hr0
  isplitl [Hr1]; · iexact Hr1
  isplitl [Hr2] <;> iassumption

omit [FloatOps F] in
/-- Eight factors, four and four. -/
theorem bigSep_eight (Φ : Fin 8 → sProp 𝕄) : bigSep Finset.univ Φ = iprop((Φ 0 ∗ Φ 1 ∗ Φ 2 ∗ Φ 3) ∗ (Φ 4 ∗ Φ 5 ∗ Φ 6 ∗ Φ 7)) := by
  rw [BI.bigSep_univ_eq_bigSepL [0, 1, 2, 3, 4, 5, 6, 7] (by decide) (by decide) Φ]
  show iprop(Φ 0 ∗ Φ 1 ∗ Φ 2 ∗ Φ 3 ∗ Φ 4 ∗ Φ 5 ∗ Φ 6 ∗ Φ 7) = _
  have assoc (A B C : sProp 𝕄) : iprop((A ∗ B) ∗ C) = iprop(A ∗ B ∗ C) := BI.equiv_iff.mp ⟨BI.sep_assoc, BI.sep_assoc'⟩
  rw [assoc, assoc, assoc]

/-- The kernel's own counters at zero: the send cells', the receive cells'. -/
theorem ownSems_eq (c : Dev nD) : (Pipeline.ownSems0 osem c : sProp 𝕄)
    = iprop((semVal (sndCell 0 c) 0 ∗ semVal (sndCell 1 c) 0 ∗ semVal (sndCell 2 c) 0 ∗ semVal (sndCell 3 c) 0)
      ∗ (semVal (rcvCell 0 c) 0 ∗ semVal (rcvCell 1 c) 0 ∗ semVal (rcvCell 2 c) 0 ∗ semVal (rcvCell 3 c) 0)) :=
  bigSep_eight (fun k : Fin 8 => (semVal ((c : Thread nD τ), osem k) 0 : sProp 𝕄))

/-- The region's entry opens the own cells. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HI, HaB, ⟨HoS, HoR⟩, Ht, Hc⟩, ⟨HzS, HzR⟩, #Hlev⟩
  imod (open_four m K (fun k => sndCell k c) (fun k => snd_mem k c)) $$ [HoS HzS] with HS
  · isplitr; · iexact HI
    isplitl [HoS] <;> iassumption
  imod (open_four m K (fun k => rcvCell k c) (fun k => rcv_mem k c)) $$ [HoR HzR] with HR
  · isplitr; · iexact HI
    isplitl [HoR] <;> iassumption
  imodintro
  iexists K
  isplitr; · iexact HI
  isplitr; · iexact Hlev
  isplitl [HaB]; · iexact HaB
  isplitl [HS HR]; · isplitl [HS] <;> iassumption
  isplitl [Ht] <;> iassumption

/-- What the launch asks of the call. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

omit [FloatOps F] in
/-- A device owes only to barrier cells and receive cells of TensorCores. -/
theorem O₀_cell (c : Dev nD) (g : GSem nD τ sig) (u : Unit) (h : 0 < O₀ c g u) :
    (∃ d, g = barCell d) ∨ ∃ (k : Fin 4) (d : Dev nD), g = rcvCell k d := by
  unfold O₀ at h
  simp only [Pi.add_apply, Finsupp.coe_add] at h
  rcases Nat.add_pos_iff_pos_or_pos.mp h with h | h
  · rcases Nat.add_pos_iff_pos_or_pos.mp h with h | h
    · exact .inr (owesD_cell c g u h)
    · rw [tallyAt_apply] at h
      split at h
      · next hg => exact .inl ⟨_, hg.1⟩
      · exact absurd h (Nat.lt_irrefl 0)
  · rw [tallyAt_apply] at h
    split at h
    · next hg => exact .inl ⟨_, hg.1⟩
    · exact absurd h (Nat.lt_irrefl 0)

/-- What a device owes at any time of its call is owed on known semaphores, above the lowest level. -/
theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_cell c g i h with ⟨d, rfl⟩ | ⟨k, d, rfl⟩
    · exact ⟨by rw [L_tc]; exact Finset.mem_singleton_self _, Nat.one_pos⟩
    · exact ⟨by rw [L_tc]; exact Finset.mem_singleton_self _, by dsimp only [lv]; rw [if_neg (by omega)]; decide⟩
  · exact absurd h (Nat.lt_irrefl 0)

omit [FloatOps F] in
theorem held_none (c : Dev nD) (W : Valuation τ sig (Elt F)) : (StableHlo.held (c.tc : Thread nD τ) ∅ W : sProp 𝕄) = iprop(emp) := BI.bigSep_empty

omit [FloatOps F] in
/-- The staging cells are at level 0. -/
theorem stage_lv (c : Dev nD) (w : Fin 6) (s : Fin (spec0 w).nbuf) : lv ((c : Thread nD τ), .dma ((spec0 w).sem s)) () ≤ 0 := by
  show (if ((spec0 w).sem s).val < 10 then 0 else 2) ≤ 0
  revert w s; decide

/-- The scoped buffers no window stages are the scratches. -/
theorem scopedRest_eq (c : Dev nD) : (Pipeline.scopedRest (Ix := Unit) (Name := ℕ) (U := UU) (Lvl := ℕ) (Val := Elt F) (Pipeline.pin (pcfgs (F := F)) adm 0).spec c : sProp 𝕄)
    = scratches c := scopedRest0_eq c

/-- What a device holds when its call begins, for the point to start from. -/
theorem hin (c : Dev nD) : iprop(Pipeline.scopedRest (Pipeline.pin (pcfgs (F := F)) adm 0).spec c ∗ (∃ r, prngReg c r) ∗ StableHlo.held (c.tc : Thread nD τ) ∅ (W₁ m c) ∗ Xk m c)
    ⊢ (pdats m 0 c).Φ 0 := by
  rw [show (pdats m 0 c).Φ 0 = Φ₀ m c from rfl]
  rw [scopedRest_eq]
  unfold Φ₀
  iintro ⟨Hs, Hp, -, HX⟩
  isplitl [HX]; · iexact HX
  isplitl [Hs] <;> iassumption

/-- What the point leaves is what the call gives back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c)
      ∗ Pipeline.ownSems0 osem c ∗ semVal (barCell c) 0) := by
  rw [show (pdats m 0 c).Φ (Fin.last _) = Φ₁ c from rfl, ownSems_eq, scopedRest_eq, held_none]
  unfold Φ₁ zeros
  iintro ⟨⟨HzB, HzS, HzR⟩, Hs, Hp⟩
  isplitl [Hs]; · iexact Hs
  isplitl [Hp]; · iexact Hp
  isplitr; · iempintro
  isplitl [HzS HzR]; · isplitl [HzS] <;> iassumption
  iexact HzB

/-- The call changes no other buffer than its result. -/
theorem W₂_of_ne (c : Dev nD) (b : DevRef τ sig) (h : b ≠ Proc.devRef .tc main_v3) : W₂ m c b = W₁ m c b := Function.update_of_ne h ..

/-- A window's array at the region's exit: an input's as the region found it, the result's as rewritten. -/
theorem hW' (c : Dev nD) (w : Fin cfg0.W) : (dat0 m c).arrAt w cfg0.N = W₂ m c (Proc.devRef .tc (Pipeline.arrRef spec0 w)) := by
  by_cases h : w = 5
  · subst h
    show _ = Function.update (W₁ m c) (Proc.devRef .tc main_v3) ((dat0 m c).arrAt 5 cfg0.N) (Proc.devRef .tc main_v3)
    rw [Function.update_self]
  · rw [W₂_of_ne m c _ (by revert h; revert w; decide)]
    exact (dat0 m c).arrAt_in w (by revert h; revert w; decide) _

set_option backward.isDefEq.respectTransparency.types false in
/-- The region. -/
def reg0 : ℝ𝕊 0 :=
  Pipeline.RegionSeg.ofTalk (pcfgs (F := F)) adm (pdats m) () defs₀ 𝒱₀ L lv 0 osem (by decide : Pipeline.OwnSemFacts spec0 osem)
    ∅ side2 (Finset.empty_subset _) kitP rfl (fun c => (body_obligation m c).loose)
    (fun _ => 0) O₀ (fun c => (owed_zero m c).trans (zero_add _).symm) (owed_last m) (fun _ => rfl) (fun c => (pdats m 0 c).share_full fun _ => rfl)
    (W₁ m) (W₂ m) (fun c b hb => W₂_of_ne m c b (by
      rintro rfl
      exact absurd hb (by decide)))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_lv c w s, fun c t g i h => cutD m c t g i h⟩
    (fun _ => iprop(emp))
    (fun _ _ => rfl) (fun c w => hW' m c w)

end Cert.KernelIdeal.Halo

end
-- ==== Proof.Mesh.lean ====
/-
  The program's run on the four devices. At the launch every cell's invariant is allocated, the barrier cells with their counters and
  the kernel's own cells without; tokens and credits are dealt to the devices that use them; then the two transposes and the kernel's
  region run one after the other. The run ends with the arguments as they were, the result's array as the kernel left it, and every
  counter at zero.
-/
module

public import proofs.«01_k».proof.Proof.Region

@[expose] public section

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def segs : List (Pipeline.Seg (pcfgs (F := F)) adm (pdats m) () defs₀ 𝒱₀ L lv) := [.host (seg0 m), .region (reg0 m)]

/-- The program is its segments run in order. -/
theorem main_eq (c : Dev nD) : main (F := F) c = Pipeline.Seg.run (segs m) := main_segs adm (pdats m) () 𝒱₀ L lv (seg0 m) (reg0 m) rfl c

/-! ## The tokens -/

/-- A device's ten payments: one on each of its own cells, two on its barrier cell. -/
abbrev tokOf : Fin 10 → SemLoc sig × Bool
  | 0 => (osem 0, false) | 1 => (osem 1, false) | 2 => (osem 2, false) | 3 => (osem 3, false)
  | 4 => (osem 4, false) | 5 => (osem 5, false) | 6 => (osem 6, false) | 7 => (osem 7, false)
  | 8 => (.reg barS, false) | 9 => (.reg barS, true)
/-- A device's ten payments are different. -/
theorem tokOf_inj : Function.Injective tokOf := by decide

/-- All of them, on every device. -/
def allToks : Finset (GSem nD τ sig × ℕ × Bool) :=
  Finset.univ.map ⟨fun ck : Dev nD × Fin 10 => (((ck.1 : Thread nD τ), (tokOf ck.2).1), 0, (tokOf ck.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩

/-- The barriers are none of the copies' semaphores. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact absurd (congrArg Prod.snd h) (by rintro ⟨⟩)

/-- The tokens of the payments on device `c`'s cells. -/
def dealt (c : Dev nD) : sProp 𝕄 :=
  iprop((dutyTok ER (sndCell 0 c) 0 false ∗ dutyTok ER (sndCell 1 c) 0 false ∗ dutyTok ER (sndCell 2 c) 0 false ∗ dutyTok ER (sndCell 3 c) 0 false)
    ∗ (dutyTok ER (rcvCell 0 c) 0 false ∗ dutyTok ER (rcvCell 1 c) 0 false ∗ dutyTok ER (rcvCell 2 c) 0 false ∗ dutyTok ER (rcvCell 3 c) 0 false)
    ∗ bigSep Finset.univ fun b : Bool => dutyTok ER (barCell c) 0 b)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem assoc (A B C : sProp 𝕄) : iprop((A ∗ B) ∗ C) = iprop(A ∗ B ∗ C) := BI.equiv_iff.mp ⟨BI.sep_assoc, BI.sep_assoc'⟩

omit [FloatOps F] in
theorem dealt_eq (c : Dev nD) :
    (bigSep Finset.univ fun k : Fin 10 => (dutyTok ER ((c : Thread nD τ), (tokOf k).1) 0 (tokOf k).2 : sProp 𝕄)) = dealt c := by
  rw [bigSep_univ_eq_bigSepL [0, 1, 2, 3, 4, 5, 6, 7, 8, 9] (by decide) (by decide)]
  unfold dealt
  rw [bigSep_bool]
  simp only [assoc]
  rfl

omit [FloatOps F] in
theorem toks_eq : bigSep allToks (fun x => (dutyTok ER x.1 x.2.1 x.2.2 : sProp 𝕄)) = bigSep Finset.univ fun c : Dev nD => dealt c := by
  unfold allToks; rw [bigSep_map, bigSep_univ_prod]
  exact bigSep_congr fun c _ => dealt_eq c

/-- The ring's step to the right. -/
def ring : Dev nD ≃ Dev nD := ⟨rgt, lft, lft_rgt, rgt_lft⟩

/-- Which payment on which barrier cell a device's first and second signals are. -/
def sig2 : Dev nD × Bool → Dev nD × Bool := fun p => if p.2 then (tgt2 p.1, d2 p.1) else (tgt1 p.1, d1 p.1)
/-- Each of a barrier's two payments is made by one signal of one device. -/
theorem sig2_bij : Function.Bijective sig2 := by decide

omit [FloatOps F] in
/-- The barrier tokens, each to the device that makes the signal. -/
theorem bar_around :
    (bigSep Finset.univ fun c : Dev nD => bigSep Finset.univ fun b : Bool => (dutyTok ER (barCell c) 0 b : sProp 𝕄))
      = bigSep Finset.univ fun c : Dev nD => iprop(dutyTok ER (barCell (tgt1 c)) 0 (d1 c) ∗ dutyTok ER (barCell (tgt2 c)) 0 (d2 c)) := by
  rw [← bigSep_univ_prod (fun p : Dev nD × Bool => (dutyTok ER (barCell p.1) 0 p.2 : sProp 𝕄)),
    bigSep_univ_equiv (Equiv.ofBijective sig2 sig2_bij) (fun p : Dev nD × Bool => (dutyTok ER (barCell p.1) 0 p.2 : sProp 𝕄)), bigSep_univ_prod]
  exact bigSep_congr fun c _ => by rw [bigSep_bool]; rfl

omit [FloatOps F] in
/-- The receive tokens, each to the device at the copy's other end. -/
theorem rcv_around (k : Fin 4) :
    (bigSep Finset.univ fun c : Dev nD => (dutyTok ER (rcvCell k c) 0 false : sProp 𝕄))
      = bigSep Finset.univ fun c : Dev nD => (dutyTok ER (rcvCell k (peer k c)) 0 false : sProp 𝕄) := by
  by_cases h : k.val < 2
  · rw [bigSep_univ_equiv ring (fun c : Dev nD => (dutyTok ER (rcvCell k c) 0 false : sProp 𝕄))]
    exact bigSep_congr fun c _ => by rw [show peer k c = rgt c from if_pos h]; rfl
  · rw [bigSep_univ_equiv ring.symm (fun c : Dev nD => (dutyTok ER (rcvCell k c) 0 false : sProp 𝕄))]
    exact bigSep_congr fun c _ => by rw [show peer k c = lft c from if_neg h]; rfl

omit [FloatOps F] in
/-- Every token to the device that pays with it. -/
theorem toks_around : (bigSep Finset.univ fun c : Dev nD => (dealt c : sProp 𝕄)) = bigSep Finset.univ fun c : Dev nD => toks c := by
  unfold dealt toks
  simp only [bigSep_sep']
  rw [bar_around, rcv_around 0, rcv_around 1, rcv_around 2, rcv_around 3, bigSep_sep']

/-! ## The credits -/

omit [FloatOps F] in
/-- What device `d` owes for copy `k'` at receive cell `k` of device `c`. -/
theorem debt_rcv (k' k : Fin 4) (d c : Dev nD) :
    debt k' d (rcvCell k c) () = if k' = k ∧ Snd k d ∧ peer k d = c then N else 0 := by
  have hcell : rcvCell k c = rcvCell k' (peer k' d) ↔ k' = k ∧ peer k' d = c := by
    constructor
    · intro h
      have h1 : c = peer k' d := congrArg (fun g : GSem nD τ sig => g.1.1) h
      have h2 : (SemLoc.dma (rcvS k) : SemLoc sig) = .dma (rcvS k') := congrArg Prod.snd h
      refine ⟨?_, h1.symm⟩
      have h3 : rcvS k = rcvS k' := by injection h2
      have h4 : 10 + k.val = 10 + k'.val := congrArg Fin.val h3
      exact Fin.ext (by omega)
    · rintro ⟨rfl, rfl⟩; rfl
  by_cases h : k' = k ∧ Snd k d ∧ peer k d = c
  · obtain ⟨rfl, hs, hp⟩ := h
    have e : debt k' d = tallyAt (rcvCell k' (peer k' d)) () N := if_pos hs
    rw [if_pos ⟨rfl, hs, hp⟩, e, tallyAt_apply, if_pos ⟨hcell.2 ⟨rfl, hp⟩, rfl⟩]
  · rw [if_neg h]
    by_cases hs : Snd k' d
    · have e : debt k' d = tallyAt (rcvCell k' (peer k' d)) () N := if_pos hs
      rw [e, tallyAt_apply, if_neg]
      rintro ⟨hc, -⟩
      obtain ⟨rfl, hp⟩ := hcell.1 hc
      exact h ⟨rfl, hs, hp⟩
    · have e : debt k' d = 0 := if_neg hs
      rw [e]; rfl

omit [FloatOps F] in
theorem owed_rcv (k : Fin 4) (d c : Dev nD) : O₀ d (rcvCell k c) () = if Snd k d ∧ peer k d = c then N else 0 := by
  have hb (e : Dev nD) : tallyAt (barCell e) () 1 (rcvCell k c) () = 0 := by
    rw [tallyAt_apply, if_neg (fun h => absurd (congrArg Prod.snd h.1) (by rintro ⟨⟩))]
  unfold O₀ owesD
  simp only [Pi.add_apply, Finsupp.coe_add, debt_rcv, hb, Nat.add_zero]
  generalize N = n
  revert k d c n
  intro k d c n
  fin_cases k <;> simp

omit [FloatOps F] in
theorem owed_bar (d c : Dev nD) : O₀ d (barCell c) () = (if tgt2 d = c then 1 else 0) + (if tgt1 d = c then 1 else 0) := by
  have hd : owesD d (barCell c) () = 0 := by
    by_contra h
    obtain ⟨k, e, he⟩ := owesD_cell d (barCell c) () (Nat.pos_of_ne_zero h)
    exact absurd (congrArg Prod.snd he) (by rintro ⟨⟩)
  have hb (e : Dev nD) : tallyAt (barCell e) () 1 (barCell c) () = if e = c then 1 else 0 := by
    rw [tallyAt_apply]
    exact if_congr ⟨fun h => (congrArg (fun g : GSem nD τ sig => g.1.1) h.1).symm, fun h => ⟨by rw [h], rfl⟩⟩ rfl rfl
  unfold O₀
  simp only [Pi.add_apply, Finsupp.coe_add, hd, hb, Nat.zero_add]

/-- Two signals come to every device. -/
theorem signals_two (c : Dev nD) : (∑ d : Dev nD, ((if tgt2 d = c then 1 else 0) + (if tgt1 d = c then 1 else 0))) = 2 := by revert c; decide

/-- A copy that comes in has one sender, and one that does not has none. -/
theorem one_sender (k : Fin 4) (c : Dev nD) : (Finset.univ.filter fun d : Dev nD => Snd k d ∧ peer k d = c).card = if Rcv k c then 1 else 0 := by
  revert k c; decide

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, signals_two]

omit [FloatOps F] in
theorem launch_rcv (k : Fin 4) (c : Dev nD) (h : Rcv k c) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv k d c, ← Finset.sum_filter, Finset.sum_const,
    one_sender, if_pos h, one_smul]

/-- What a core is credited with at the launch holds its barrier credit and its receive credits. -/
theorem creds_of_launch (c : Dev nD) : (Pipeline.launchCred O₀ c : sProp 𝕄) ⊢ creds c := by
  have hR (k : Fin 4) : (cred (tallyOn (rcvCell k c) (launchCredit (Pipeline.owing O₀) 0 (rcvCell k c))) : sProp 𝕄) ⊢ rcvCred k c := by
    unfold rcvCred
    split
    · next h => rw [launch_rcv k c h]
    · iintro -; iempintro
  have hS : ([SemLoc.reg barS, .dma (rcvS 0), .dma (rcvS 1), .dma (rcvS 2), .dma (rcvS 3)] : List (SemLoc sig)).Nodup := by decide
  unfold Pipeline.launchCred creds
  rw [bigSep_sdiff_split (Finset.subset_univ ([SemLoc.reg barS, .dma (rcvS 0), .dma (rcvS 1), .dma (rcvS 2), .dma (rcvS 3)] : List (SemLoc sig)).toFinset),
    bigSep_eq_bigSepL _ hS]
  refine (show _ ⊢ iprop((cred (tallyOn (barCell c) (launchCredit (Pipeline.owing O₀) 0 (barCell c)))
      ∗ cred (tallyOn (rcvCell 0 c) (launchCredit (Pipeline.owing O₀) 0 (rcvCell 0 c))) ∗ cred (tallyOn (rcvCell 1 c) (launchCredit (Pipeline.owing O₀) 0 (rcvCell 1 c)))
      ∗ cred (tallyOn (rcvCell 2 c) (launchCredit (Pipeline.owing O₀) 0 (rcvCell 2 c))) ∗ cred (tallyOn (rcvCell 3 c) (launchCredit (Pipeline.owing O₀) 0 (rcvCell 3 c)))) ∗ _)
    from .rfl).trans ?_
  rw [launch_bar]
  iintro ⟨⟨HB, H0, H1, H2, H3⟩, -⟩
  isplitl [HB]; · iexact HB
  isplitl [H0]; · iapply (hR 0); iexact H0
  isplitl [H1]; · iapply (hR 1); iexact H1
  isplitl [H2]; · iapply (hR 2); iexact H2
  iapply (hR 3); iexact H3

/-! ## The launch -/

/-- The launch element: the pipeline's cells and tokens, the exchange's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The exchange's element is used whole, so it starts on device 0. -/
def G (c : Dev nD) : sProp 𝕄 := if c = 0 then BI.own (ER (launchOf barCells scCells allToks)) else iprop(emp)

omit [FloatOps F] in
theorem bigSep_G : bigSep Finset.univ G = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The rights to open device `c`'s send and receive cells. -/
def rights (c : Dev nD) : sProp 𝕄 :=
  iprop((openTok ER (sndCell 0 c) ∗ openTok ER (sndCell 1 c) ∗ openTok ER (sndCell 2 c) ∗ openTok ER (sndCell 3 c))
    ∗ (openTok ER (rcvCell 0 c) ∗ openTok ER (rcvCell 1 c) ∗ openTok ER (rcvCell 2 c) ∗ openTok ER (rcvCell 3 c)))

omit [FloatOps F] in
theorem rights_eq : bigSep scCells (fun g => (openTok ER g : sProp 𝕄)) = bigSep Finset.univ fun c : Dev nD => rights c := by
  rw [bigSep_map, bigSep_univ_prod]
  exact bigSep_congr fun c _ => bigSep_eight (fun k : Fin 8 => (openTok ER ((c : Thread nD τ), osem k) : sProp 𝕄))

/-- The first thread state. -/
abbrev T₀ (c : Dev nD) : sProp 𝕄 := iprop(StableHlo.held (c : Thread nD τ) bufs (W₀ m c) ∗ riding m c)
/-- The last. -/
abbrev Tₙ (c : Dev nD) : sProp 𝕄 := iprop(StableHlo.held (c : Thread nD τ) bufs (W₂ m c) ∗ semVal (barCell c) 0)

/-- What a core has of the exchange's tokens. -/
def share (c : Dev nD) : sProp 𝕄 := iprop(atPos ER (barCell c) 0 ∅ 0 ∗ rights c ∗ toks c)
/-- And the rest of what it starts with. -/
def rest (c : Dev nD) : sProp 𝕄 :=
  iprop(StableHlo.held (c : Thread nD τ) bufs (W₀ m c) ∗ creds c ∗ owes (c : Thread nD τ) (O₀ c) ∅ ∗ ∃ r, prngReg c r)

/-- A device's part of what the launch deals, gathered from its pieces. -/
theorem T₀_intro (K : GSem nD τ sig → ℕ) (c : Dev nD) : iprop(records (in2 m) (in3 m) K ∗ (share c ∗ rest m c)) ⊢ T₀ m c := by
  unfold share rest T₀ riding Tk rights
  iintro ⟨HI, ⟨HaB, Hr, Ht⟩, ⟨Hh, Hc, HO, Hp⟩⟩
  isplitl [Hh]; · iexact Hh
  isplitl [HI HaB Hr Ht Hc]
  · iexists K
    isplitl [HI]; · iexact HI
    isplitl [HaB]; · iexact HaB
    isplitl [Hr]; · iexact Hr
    isplitl [Ht] <;> iassumption
  isplitl [Hp]; · iexact Hp
  iexists ∅; iexact HO

/-- One core's launch holdings, regrouped. -/
theorem regroup (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show unscopedBufs c (fun b => m ((c : Thread nD τ).loc b)) = StableHlo.held (c : Thread nD τ) bufs (W₀ m c) from unscopedBufs_held c (W₀ m c),
    unscopedSems0_eq]
  unfold rest
  iintro ⟨Hh, Hz, HO, Hc, Hp, HG⟩
  ihave Hc := (creds_of_launch c) $$ Hc
  isplitl [Hh HO Hc Hp]
  · isplitl [Hh]; · iexact Hh
    isplitl [Hc]; · iexact Hc
    isplitl [HO]; · iexact HO
    iexists (ρ c); iexact Hp
  isplitl [Hz] <;> iassumption

omit [FloatOps F] in
/-- Two families over the devices are one family of pairs. -/
theorem zip (A B : Dev nD → sProp 𝕄) : iprop(bigSep Finset.univ A ∗ bigSep Finset.univ B) = bigSep Finset.univ fun c => iprop(A c ∗ B c) :=
  (bigSep_sep _ _ _).symm

/-- The launch: the exchange's cells funded, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep barCells (fun g => (semVal g 0 : sProp 𝕄)) = bigSep Finset.univ (fun c : Dev nD => (semVal (barCell c) 0 : sProp 𝕄)) :=
    bigSep_map (s := Finset.univ) barEmb (Φ := fun g : GSem nD τ sig => (semVal g 0 : sProp 𝕄))
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  iintro ⟨H, -⟩
  ihave H := (show _ ⊢ bigSep Finset.univ fun c : Dev nD => iprop(rest m c ∗ (semVal (barCell c) 0 ∗ G c)) from bigSep_mono fun c _ => regroup m ρ c) $$ H
  ihave H := (Entails.of_eq (zip _ _).symm) $$ H; icases H with ⟨HB, H⟩
  ihave H := (Entails.of_eq (zip _ _).symm) $$ H; icases H with ⟨Hz, HG⟩
  ihave Hu := (Entails.of_eq (bigSep_G (F := F))) $$ HG
  imod (Rounds.fund_launch ER (haloRd (in2 m) (in3 m)) disjoint_cells (fun g _ h => h) allToks) $$ [Hz Hu] with ⟨%K, -, #Hinv, #Hr, Hat, Hopen, Htok⟩
  · isplitl [Hz]
    · iapply (Entails.of_eq hv.symm); iexact Hz
    · iexact Hu
  imodintro
  iapply (bigSep_with_persistent (R := records (in2 m) (in3 m) K) (Φ := fun c => iprop(share c ∗ rest m c)) fun c _ => T₀_intro m K c)
  isplitr
  · unfold records
    isplitr; · iexact Hinv
    iexact Hr
  iapply (Entails.of_eq (zip _ _))
  isplitr [HB]; swap; · iexact HB
  unfold share
  iapply (Entails.of_eq (zip _ _)); isplitl [Hat]; · iapply (Entails.of_eq hat); iexact Hat
  iapply (Entails.of_eq (zip _ _)); isplitl [Hopen]; · iapply (Entails.of_eq (rights_eq (F := F))); iexact Hopen
  iapply (Entails.of_eq (toks_around (F := F)))
  iapply (Entails.of_eq (toks_eq (F := F))); iexact Htok

/-! ## The segments chained -/

/-- After the transposes the arrays and what rides with them are what the region takes. -/
theorem reg0_pre (c : Dev nD) : iprop(StableHlo.held (c : Thread nD τ) bufs (W₁ m c) ∗ riding m c) ⊢ (reg0 m).pre c := by
  show _ ⊢ iprop(StableHlo.held (c.tc : Thread nD τ) (Pipeline.arrRefs (τ := τ) spec0) (W₁ m c) ∗ (∃ r, prngReg c r)
    ∗ (StableHlo.held (c.tc : Thread nD τ) side2 (W₁ m c) ∗ emp) ∗ Tk m c ∗ ∃ Wd, owes (c : Thread nD τ) (0 + O₀ c) Wd)
  rw [StableHlo.held_sub_split (c.tc : Thread nD τ) arrs_sub (W₁ m c), zero_add]
  unfold riding
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

/-- What the region leaves is the last thread state, nothing owed. -/
theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) side2 (W₂ m c) ∗ emp) ∗ semVal (barCell c) 0 ∗ ∃ Wd, owes (c : Thread nD τ) (0 : CellTallies nD τ sig Unit) Wd) ⊢ _
  rw [show Tₙ m c = iprop((StableHlo.held (c.tc : Thread nD τ) (Pipeline.arrRefs (τ := τ) spec0) (W₂ m c)
      ∗ StableHlo.held (c.tc : Thread nD τ) side2 (W₂ m c)) ∗ semVal (barCell c) 0) from
    congrArg (fun P => iprop(P ∗ semVal (barCell c) 0)) (StableHlo.held_sub_split (c.tc : Thread nD τ) arrs_sub (W₂ m c))]
  iintro ⟨Ha, -, ⟨Hs, -⟩, Hz, HO⟩
  isplitr [HO]; swap; · iexact HO
  isplitl [Ha Hs]; · isplitl [Ha] <;> iassumption
  iexact Hz

/-- The barrier is the one semaphore that outlives the call. -/
theorem unscoped_eq : ∀ sm : SemLoc sig, sm.isScoped .tc = false → sm = .reg barS := by decide

/-- Two distinct arrays of the program, read out of the last thread state. -/
theorem held_bufs (c : Dev nD) (W : Valuation τ sig (Elt F)) : (StableHlo.held (c : Thread nD τ) bufs W : sProp 𝕄)
    = iprop(buf c main_arg0 (W main_arg0) ∗ buf c main_arg1 (W main_arg1) ∗ buf c main_arg2 (W main_arg2) ∗ buf c main_arg3 (W main_arg3)
      ∗ buf c main_arg4 (W main_arg4) ∗ buf c main_v1 (W main_v1) ∗ buf c main_v2 (W main_v2) ∗ buf c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

set_option backward.isDefEq.respectTransparency.types false in
/-- The run: from any memory with zero counters every weakly fair execution on the four devices ends, with each argument as it was,
    the result's array as the kernel left it, and every counter at zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v3) = (dat0 m c).arrAt 5 cfg0.N) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg0_pre m c, fun c => reg0_post m c⟩)
    (hinit := init m ρ)
    (QY := fun c s => ((s.mem ((c.tc : Thread nD τ).loc main_arg0) = W₂ m c main_arg0 ∧ s.mem ((c.tc : Thread nD τ).loc main_arg1) = W₂ m c main_arg1
        ∧ s.mem ((c.tc : Thread nD τ).loc main_arg2) = W₂ m c main_arg2 ∧ s.mem ((c.tc : Thread nD τ).loc main_arg3) = W₂ m c main_arg3
        ∧ s.mem ((c.tc : Thread nD τ).loc main_arg4) = W₂ m c main_arg4) ∧ s.mem ((c.tc : Thread nD τ).loc main_v3) = W₂ m c main_v3)
      ∧ s.sem (barCell c) = 0)
    (hfin := fun c s' => by
      dsimp only [Tₙ]; rw [held_bufs]
      iintro ⟨⟨⟨H0, H1, H2, H3, H4, -, -, H7⟩, Hb⟩, HSI⟩
      icombine HSI H0 gives %h0
      icombine HSI H1 gives %h1
      icombine HSI H2 gives %h2
      icombine HSI H3 gives %h3
      icombine HSI H4 gives %h4
      icombine HSI H7 gives %h7
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h7⟩, by simpa using hb⟩
      iexact HSI)
    (hQ := fun s h hs => ⟨fun c => by
        obtain ⟨⟨⟨h0, h1, h2, h3, h4⟩, h7⟩, -⟩ := h c
        refine ⟨⟨h0.trans ?_, h1.trans ?_, h2.trans ?_, h3.trans ?_, h4.trans ?_⟩, h7.trans ?_⟩
        · exact (W₂_of_ne m c _ (by decide)).trans (V_main_arg0 m c)
        · exact (W₂_of_ne m c _ (by decide)).trans (V_main_arg1 m c)
        · exact (W₂_of_ne m c _ (by decide)).trans (V_main_arg2 m c)
        · exact (W₂_of_ne m c _ (by decide)).trans (V_main_arg3 m c)
        · exact (W₂_of_ne m c _ (by decide)).trans (V_main_arg4 m c)
        · show Function.update (W₁ m c) (Proc.devRef .tc main_v3) ((dat0 m c).arrAt 5 cfg0.N) (Proc.devRef .tc main_v3) = _
          rw [Function.update_self],
      sem_eq_zero hs fun c sm hsm => by
        obtain rfl := unscoped_eq sm hsm
        exact (h c).2⟩)

end Cert.KernelIdeal.Halo

end
-- ==== Proof.Frames.lean ====
/-
  The frames. The kernel as printed and the kernel over the extended reals are the same text in two namespaces, so the one run
  (Mesh.lean, over any float instance) serves both; the reference's run is read off its operations.
-/
module

public import proofs.«01_k».proof.Defs
public import proofs.«01_k».proof.Proof.Gen.Kernel
public import proofs.«01_k».proof.Proof.Gen.ReferenceIdeal.Run
public import proofs.«01_k».proof.Proof.Mesh

@[expose] public section

noncomputable section

namespace Cert.Proof

open Idealize.ShloMosaic Idealize.ShloMosaic.TcCoe Idealize.SL.Sem

variable {F : FTy → Type} [FloatOps F]

/-- The two programs have the same calls' layouts. -/
theorem pcfgs_eq : Cert.Kernel.pcfgs (F := F) = Cert.KernelIdeal.pcfgs (F := F) := rfl

theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

/-- The two programs define the same calls. -/
theorem defs_eq : Cert.Kernel.defs (F := F) = Cert.KernelIdeal.defs (F := F) := congrArg (Pipeline.defs Cert.KernelIdeal.pcfgs) bodies_eq

/-- The kernel as printed ends from any memory, its arguments unchanged and every counter at zero. -/
theorem frame_kernel : Cert.quiescent_Kernel := fun m g _ => by
  have h := Cert.KernelIdeal.Halo.run_main (F := Bits) m g
  rw [← defs_eq] at h
  exact (θ_run (Cert.Kernel.defs (F := Bits)) (onTc (τ := Cert.Kernel.τ) (Cert.Kernel.main (F := Bits))) ⟨m, fun _ => 0, g⟩).mono
    (fun _ h => ⟨fun c => (h.1 c).1, h.2⟩) h

/-- So does the kernel over the extended reals. -/
theorem frame_kernelIdeal : Cert.quiescent_KernelIdeal := fun m g _ =>
  (θ_run (Cert.KernelIdeal.defs (F := Ideal)) _ _).mono (fun _ h => ⟨fun c => (h.1 c).1, h.2⟩) (Cert.KernelIdeal.Halo.run_main (F := Ideal) m g)

/-- The reference has no semaphore. -/
theorem no_sems (sm : SemLoc Cert.ReferenceIdeal.sig) : False := by revert sm; decide

/-- And the reference, which has no semaphores. -/
theorem frame_reference : Cert.quiescent_ReferenceIdeal := fun m g _ =>
  (θ_run (Cert.ReferenceIdeal.defs (F := Ideal)) _ _).mono (fun _ h => ⟨fun c => (h c).2, funext fun s => (no_sems s.2).elim⟩)
    (Cert.ReferenceIdeal.Value.run (F := Ideal) m g)

end Cert.Proof

end
-- ==== Proof.Window.lean ====
/-
  A band of 257 places out of 1024, in the pieces in which a device meets it: its own 256 places, and 128 of a neighbour's.
-/
module

public import Idealize.ShloMosaic.PureOps.Ideal
public import Mathlib.Algebra.BigOperators.Intervals

@[expose] public section

namespace Cert.Halo

/-- Two places at most 128 apart. -/
abbrev Near (I J : ℕ) : Prop := J ≤ I + 128 ∧ I ≤ J + 128

/-- A sum over the places `a` to `b` of a function that is zero off them. -/
theorem sum_piece (f : ℕ → EReal) (a b : ℕ) (hb : b ≤ 1024) (h0 : ∀ J < 1024, J < a ∨ b ≤ J → f J = 0) :
    ∑ J : Fin 1024, f J.val = ∑ J ∈ Finset.Ico a b, f J := by
  rw [Fin.sum_univ_eq_sum_range (fun J => f J) 1024]
  refine (Finset.sum_subset (fun J hJ => ?_) fun J hJ hn => h0 J (Finset.mem_range.mp hJ) ?_).symm
  · rw [Finset.mem_Ico] at hJ; rw [Finset.mem_range]; omega
  · rw [Finset.mem_Ico] at hn; omega

/-- A sum over `n` places from `a` on. -/
theorem sum_from (f : ℕ → EReal) (a n : ℕ) : ∑ J ∈ Finset.Ico a (a + n), f J = ∑ j : Fin n, f (a + j.val) := by
  rw [Finset.sum_Ico_eq_sum_range, Nat.add_sub_cancel_left, Fin.sum_univ_eq_sum_range (fun j => f (a + j)) n]

/-- For one of device `c`'s upper 128 places, the sum over all places near it: the device's own, and its left neighbour's last 128. -/
theorem sum_upper (f : ℕ → EReal) (c i : ℕ) (hc : c < 4) (hi : i < 128) (h0 : ∀ J, ¬ Near (256 * c + i) J → f J = 0) :
    ∑ J : Fin 1024, f J.val = (∑ j : Fin 256, f (256 * c + j.val)) + ∑ j : Fin 128, if 0 < c then f (256 * c - 128 + j.val) else 0 := by
  have hn : ∀ J < 1024, J < 256 * c - 128 ∨ 256 * c + 256 ≤ J → f J = 0 := fun J _ h => h0 J (by unfold Near; omega)
  rw [sum_piece f (256 * c - 128) (256 * c + 256) (by omega) hn, ← sum_from f (256 * c) 256]
  by_cases h : 0 < c
  · simp only [if_pos h]
    rw [← sum_from f (256 * c - 128) 128, show 256 * c - 128 + 128 = 256 * c by omega, add_comm (∑ J ∈ Finset.Ico (256 * c) _, f J),
      Finset.sum_Ico_consecutive _ (by omega) (by omega)]
  · obtain rfl : c = 0 := by omega
    simp

/-- For one of its lower 128 places: the device's own, and its right neighbour's first 128. -/
theorem sum_lower (f : ℕ → EReal) (c i : ℕ) (hc : c < 4) (hi : 128 ≤ i) (hi' : i < 256) (h0 : ∀ J, ¬ Near (256 * c + i) J → f J = 0) :
    ∑ J : Fin 1024, f J.val = (∑ j : Fin 256, f (256 * c + j.val)) + ∑ j : Fin 128, if c < 3 then f (256 * c + 256 + j.val) else 0 := by
  rw [← sum_from f (256 * c) 256]
  by_cases h : c < 3
  · have hn : ∀ J < 1024, J < 256 * c ∨ 256 * c + 256 + 128 ≤ J → f J = 0 := fun J _ h => h0 J (by unfold Near; omega)
    simp only [if_pos h]
    rw [sum_piece f (256 * c) (256 * c + 256 + 128) (by omega) hn, ← sum_from f (256 * c + 256) 128,
      Finset.sum_Ico_consecutive _ (by omega) (by omega)]
  · have hn : ∀ J < 1024, J < 256 * c ∨ 256 * c + 256 ≤ J → f J = 0 := fun J _ h => h0 J (by unfold Near; omega)
    simp only [if_neg h]
    rw [sum_piece f (256 * c) (256 * c + 256) (by omega) hn]; simp

end Cert.Halo

end
-- ==== Proof.Softmax.lean ====
/-
  A softmax over the places near one place, over the extended reals: shifted by the greatest score and divided weight by weight, it is
  the unshifted weighted sum over the unshifted sum.
-/
module

public import proofs.«01_k».proof.Proof.Window
public import Idealize.ShloMosaic.PureOps.Ideal
public import Mathlib.Data.Finset.Fold

@[expose] public section

namespace Cert.Halo

open Idealize.ShloMosaic

/-- Multiplication by a nonnegative real distributes over a finite sum of extended reals. -/
theorem sum_mul_real {ι : Type} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A finite sum of reals, as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

variable (I : Fin 1024) (s : ℕ → ℝ)

/-- A score where the places are near, −∞ elsewhere. -/
noncomputable def masked (J : ℕ) : EReal := if Near I.val J then (s J : EReal) else ⊥

/-- The greatest masked score is a real number. -/
theorem top_real : ∃ m : ℝ, (Finset.univ : Finset (Fin 1024)).fold max ⊥ (fun J => masked I s J.val) = (m : EReal) := by
  have hlt : (Finset.univ : Finset (Fin 1024)).fold max ⊥ (fun J => masked I s J.val) < ⊤ :=
    (Finset.fold_max_lt _).mpr ⟨bot_lt_top, fun J _ => by unfold masked; split <;> simp [EReal.coe_lt_top]⟩
  have hge : ((s I.val : ℝ) : EReal) ≤ (Finset.univ : Finset (Fin 1024)).fold max ⊥ (fun J => masked I s J.val) :=
    (Finset.le_fold_max _).mpr (Or.inr ⟨I, Finset.mem_univ _, by unfold masked Near; simp⟩)
  exact ⟨_, (EReal.coe_toReal hlt.ne (fun h => by rw [h] at hge; simp at hge)).symm⟩

/-- The shifted softmax of the masked scores, applied to values, is the quotient of the unshifted sums. -/
theorem softmax (V : ℕ → EReal) :
    (∑ J : Fin 1024, V J.val * Ideal.div
        (Ideal.exp (masked I s J.val - (Finset.univ : Finset (Fin 1024)).fold max ⊥ (fun K => masked I s K.val)))
        (∑ L : Fin 1024, Ideal.exp (masked I s L.val - (Finset.univ : Finset (Fin 1024)).fold max ⊥ (fun K => masked I s K.val))))
      = Ideal.div (∑ J : Fin 1024, Ideal.exp (masked I s J.val) * V J.val) (∑ J : Fin 1024, Ideal.exp (masked I s J.val)) := by
  obtain ⟨m, hm⟩ := top_real I s
  rw [hm]
  have hr : ∀ J, Ideal.exp (masked I s J) = ((if Near I.val J then Real.exp (s J) else 0 : ℝ) : EReal) := fun J => by
    unfold masked; split <;> simp
  have hw : ∀ J, Ideal.exp (masked I s J - (m : EReal)) = ((Real.exp (-m) * (if Near I.val J then Real.exp (s J) else 0) : ℝ) : EReal) := fun J => by
    unfold masked
    split
    · rw [← EReal.coe_sub, Ideal.exp_coe, sub_eq_add_neg, Real.exp_add, mul_comm]
    · simp
  set r : ℕ → ℝ := fun J => if Near I.val J then Real.exp (s J) else 0 with hrdef
  have hr0 : ∀ J, 0 ≤ r J := fun J => by simp only [hrdef]; split <;> positivity
  have hR : 0 < ∑ J : Fin 1024, r J.val := Finset.sum_pos' (fun J _ => hr0 _) ⟨I, Finset.mem_univ _, by simp only [hrdef]; rw [if_pos (by unfold Near; omega)]; positivity⟩
  have ha := Real.exp_pos (-m)
  simp only [hw, hr]
  change (∑ J : Fin 1024, V J.val * Ideal.div ((Real.exp (-m) * r J.val : ℝ) : EReal) (∑ L : Fin 1024, ((Real.exp (-m) * r L.val : ℝ) : EReal)))
    = Ideal.div (∑ J : Fin 1024, (r J.val : EReal) * V J.val) (∑ J : Fin 1024, (r J.val : EReal))
  rw [← coe_sum, ← coe_sum, ← Finset.mul_sum, Ideal.div_coe hR.ne', sum_mul_real _ _ _ (by positivity)]
  refine Finset.sum_congr rfl fun J _ => ?_
  rw [Ideal.div_coe (mul_pos ha hR).ne', ← EReal.coe_mul, mul_comm (r J.val : EReal) (V J.val), mul_assoc (V J.val), ← EReal.coe_mul]
  congr 2
  field_simp

end Cert.Halo

noncomputable section

namespace Cert.Halo

open Idealize.ShloMosaic

/-- The weight of place `J`'s key for the query `Q` at place `I`. -/
def wt (Q : Fin 64 → EReal) (K : ℕ → Fin 64 → EReal) (I J : ℕ) : EReal := if Near I J then Ideal.exp (∑ x, Q x * K J x) else 0

/-- A head's context in one coordinate: the weighted values over the sum of the weights. -/
def head (Q : Fin 64 → EReal) (K V : ℕ → Fin 64 → EReal) (I : ℕ) (e : Fin 64) : EReal :=
  Ideal.div (∑ J : Fin 1024, wt Q K I J.val * V J.val e) (∑ J : Fin 1024, wt Q K I J.val)

/-- 1024 rows as a function of any place, zero past the last. -/
def rows (f : Fin 1024 → Fin 64 → EReal) : ℕ → Fin 64 → EReal := fun J x => if hJ : J < 1024 then f ⟨J, hJ⟩ x else 0

/-- Such a function at one of the 1024 places. -/
theorem rows_val (f : Fin 1024 → Fin 64 → EReal) (J : Fin 1024) (x : Fin 64) : rows f J.val x = f J x := by
  unfold rows; rw [dif_pos J.isLt]

/-- An extended real that is a real number. -/
abbrev IsReal (x : EReal) : Prop := ∃ r : ℝ, x = (r : EReal)

/-- A sum of reals is real, -/
theorem isReal_sum {ι : Type} (s : Finset ι) (f : ι → EReal) (h : ∀ j, IsReal (f j)) : IsReal (∑ j ∈ s, f j) := by
  choose g hg using h
  exact ⟨∑ j ∈ s, g j, by rw [coe_sum]; exact Finset.sum_congr rfl fun j _ => hg j⟩

/-- and so is a product. -/
theorem isReal_mul {x y : EReal} (hx : IsReal x) (hy : IsReal y) : IsReal (x * y) := by
  obtain ⟨a, rfl⟩ := hx; obtain ⟨b, rfl⟩ := hy
  exact ⟨a * b, (EReal.coe_mul a b).symm⟩

/-- Of real queries `q`, keys `k` and a real scale `a`: the softmax of the scores scaled after the product, applied to values, is the
    context of the queries scaled before it. -/
theorem softmax_head (I : Fin 1024) (q : Fin 64 → EReal) (k : Fin 1024 → Fin 64 → EReal) (a : EReal) (v : Fin 1024 → Fin 64 → EReal) (e : Fin 64)
    (hq : ∀ x, IsReal (q x)) (hk : ∀ J x, IsReal (k J x)) (ha : IsReal a) (t : Fin 1024 → EReal)
    (ht : ∀ J, t J = if Near I.val J.val then (∑ x, q x * k J x) * a else ⊥) :
    (∑ J, v J e * Ideal.div (Ideal.exp (t J - (Finset.univ : Finset (Fin 1024)).fold max ⊥ t))
        (∑ L, Ideal.exp (t L - (Finset.univ : Finset (Fin 1024)).fold max ⊥ t)))
      = head (fun x => q x * a) (rows k) (rows v) I.val e := by
  choose q' hq using hq
  obtain ⟨a, rfl⟩ := ha
  have hk' : ∀ J x, IsReal (rows k J x) := fun J x => by
    unfold rows; split
    · exact hk _ _
    · exact ⟨0, rfl⟩
  choose k' hk' using hk'
  have ht' : t = fun J => masked I (fun J => ∑ x, q' x * a * k' J x) J.val := funext fun J => by
    rw [ht J]; unfold masked
    refine if_congr Iff.rfl ?_ rfl
    have : ∀ x, q x * k J x = ((q' x * k' J.val x : ℝ) : EReal) := fun x => by rw [hq x, ← rows_val k J x, hk' J.val x, ← EReal.coe_mul]
    simp only [this, ← coe_sum, ← EReal.coe_mul]
    rw [Finset.sum_mul]
    exact congrArg _ (Finset.sum_congr rfl fun x _ => by ring)
  have hw : ∀ J : Fin 1024, wt (fun x => q x * a) (rows k) I.val J.val = Ideal.exp (masked I (fun J => ∑ x, q' x * a * k' J x) J.val) := fun J => by
    unfold wt masked
    by_cases hn : Near I.val J.val
    · rw [if_pos hn, if_pos hn, coe_sum]
      exact congrArg Ideal.exp (Finset.sum_congr rfl fun x _ => by simp only [hq x, hk' J.val x, EReal.coe_mul])
    · rw [if_neg hn, if_neg hn, Ideal.exp_bot]
  rw [ht']
  have := softmax I (fun J => ∑ x, q' x * a * k' J x) (fun J => rows v J e)
  simp only [rows_val] at this
  unfold head
  simp only [hw, rows_val]
  exact this

end Cert.Halo

end
-- ==== Proof.Finite.lean ====
/-
  What the precondition says of the arrays a device holds: every entry of x, of the query matrix and of the keys is a real number.
-/
module

public import proofs.«01_k».proof.Pre_finite_KernelIdeal
public import proofs.«01_k».proof.Pre_finite_ReferenceIdeal
public import proofs.«01_k».proof.Proof.Softmax
public import Idealize.ShloMosaic.Lib.ReduceAll
public import Idealize.ShloMosaic.Lib.Pointwise

@[expose] public section

noncomputable section

namespace Cert.Halo

open Idealize.ShloMosaic

/-- The precondition's shapes fit together. -/
theorem facts_kernel : Cert.Pre_finite_KernelIdeal.Facts :=
  ⟨by decide, by decide, by decide, by decide, by decide, by decide, by decide⟩

/-- So do they on the whole arrays. -/
theorem facts_reference : Cert.Pre_finite_ReferenceIdeal.Facts :=
  ⟨by decide, by decide, by decide, by decide, by decide, by decide, by decide⟩

/-- The word of +∞. -/
theorem top_word : Ideal.ofBits .f32 0x7F800000#32 = ⊤ := by simp [Ideal.ofBits, Ideal.ieee]

/-- A number of size below +∞ is real. -/
theorem isReal_of_abs_lt (x : Ideal .f32)
    (h : FloatOps.cmpf .olt (FloatOps.hostAbsf x) (FloatOps.ofBits (F := Ideal) .f32 0x7F800000#32) = 1#1) : IsReal x := by
  have h' : Ideal.cmp .olt (max (x : EReal) (-(x : EReal))) (Ideal.ofBits .f32 0x7F800000#32) = 1#1 := h
  rw [top_word] at h'
  have hlt : max (x : EReal) (-(x : EReal)) < ⊤ := by
    by_contra hn
    simp [Ideal.cmp, hn] at h'
  obtain ⟨h1, h2⟩ := max_lt_iff.1 hlt
  refine ⟨(x : EReal).toReal, (EReal.coe_toReal h1.ne fun hb => ?_).symm⟩
  rw [hb] at h2
  simp at h2

/-- The precondition of a device's arrays makes x, the query matrix and the keys real. -/
theorem real_of_finite [Cert.Pre_finite_KernelIdeal.Facts] (x : FVec Ideal ⟨3, ![2, 256, 512]⟩ .f32) (wq : FVec Ideal ⟨2, ![512, 256]⟩ .f32)
    (k v : FVec Ideal ⟨4, ![2, 256, 4, 64]⟩ .f32) (wo : FVec Ideal ⟨2, ![256, 512]⟩ .f32)
    (h : Cert.Pre_finite_KernelIdeal.fn x wq k v wo = fun _ => 1#1) :
    (∀ i, IsReal (x i)) ∧ (∀ i, IsReal (wq i)) ∧ ∀ i, IsReal (k i) := by
  have h0 := congrFun h (fun a => a.elim0)
  dsimp only [Cert.Pre_finite_KernelIdeal.fn] at h0
  obtain ⟨h12, h3⟩ := IntOp.andi_eq_one.1 h0
  obtain ⟨h1, h2⟩ := IntOp.andi_eq_one.1 h12
  haveI : Subsingleton (Shape.Idx Cert.Pre_finite_KernelIdeal.S_) := ⟨fun a b => funext fun i => i.elim0⟩
  exact ⟨fun i => isReal_of_abs_lt _ (Host.reduce_andi_all _ _ _ _ _ h1 i), fun i => isReal_of_abs_lt _ (Host.reduce_andi_all _ _ _ _ _ h2 i),
    fun i => isReal_of_abs_lt _ (Host.reduce_andi_all _ _ _ _ _ h3 i)⟩

end Cert.Halo

end
-- ==== Proof.Contexts.lean ====
/-
  The kernel's result as a function of what it loads. The eight heads' contexts are written out by the kernel one by one; here each is
  the one function `headCtx` of its queries, keys, values and masks, and that function is read at an index over the extended reals.
-/
module

public import proofs.«01_k».proof.Proof.Body
public import proofs.«01_k».proof.Proof.Softmax
public import Idealize.ShloMosaic.Lib.Pointwise
public import Idealize.ShloMosaic.Lib.WordArith
public import Idealize.ShloMosaic.Lib.Pipeline.ValueKit.Tiles

@[expose] public section

set_option maxRecDepth 16384

noncomputable section

namespace Cert.KernelIdeal.Halo

open Idealize.ShloMosaic Idealize.ShloMosaic.TcCoe
open Cert.KernelIdeal Cert.KernelIdeal.Gen Cert.Halo

section Any

variable {F : FTy → Type} [FloatOps F]

/-- The weights of a block of 256 queries on their device's 256 keys. -/
def ownW (m : FVec F S256x256 .f32) (q : Vec F S1x256x64 .bf16) (k : Vec F S1x1x64x256 .bf16) : FVec F S256x256 .f32 :=
  mulf (exp (matmul dot_S256x64_S64x256_S256x256_1_0_0_1_n_n none (shapeCast S256x64 q shapeCasts_S1x256x64_S256x64)
    (shapeCast S64x256 k shapeCasts_S1x1x64x256_S64x256) (constant S256x256 .f32 0x00000000#32))) m

/-- The weights of 128 queries on the 128 keys of a halo. -/
def haloW (m : FVec F S128x128 .f32) (q : Vec F S1x128x64 .bf16) (k : Vec F S1x1x64x128 .bf16) : FVec F S128x128 .f32 :=
  mulf (exp (matmul dot_S128x64_S64x128_S128x128_1_0_0_1_n_n none (shapeCast S128x64 q shapeCasts_S1x128x64_S128x64)
    (shapeCast S64x128 k shapeCasts_S1x1x64x128_S64x128) (constant S128x128 .f32 0x00000000#32))) m

/-- A halo's weights summed over its keys. -/
def haloDen (w : FVec F S128x128 .f32) : FVec F S128x1 .f32 :=
  shapeCast S128x1 (multiReduction .add [1] S128 w 0x00000000#32 reduces_S128x128_S128 (.inl rfl) rfl) shapeCasts_S128_S128x1

/-- A halo's weighted values. -/
def haloNum (w : FVec F S128x128 .f32) (v : Vec F S1x1x64x128 .bf16) : FVec F S128x64 .f32 :=
  matmul dot_S128x128_S64x128_S128x64_1_1_0_0_n_n none (truncf .bf16 w bitsLt_bf16_f32) (shapeCast S64x128 v shapeCasts_S1x1x64x128_S64x128)
    (constant S128x64 .f32 0x00000000#32)

/-- One head's context: the weighted values over the weights' sum, own keys first, then the left halo's for the upper 128 queries and the
    right halo's for the lower. -/
def headCtx (m : FVec F S256x256 .f32) (l r : FVec F S128x128 .f32) (q : Vec F S1x256x64 .bf16) (qt qb : Vec F S1x128x64 .bf16)
    (k v : Vec F S1x1x64x256 .bf16) (kl kr vl vr : Vec F S1x1x64x128 .bf16) : FVec F S256x64 .bf16 :=
  truncf .bf16 (divf
    (addf (matmul dot_S256x256_S64x256_S256x64_1_1_0_0_n_n none (truncf .bf16 (ownW m q k) bitsLt_bf16_f32)
        (shapeCast S64x256 v shapeCasts_S1x1x64x256_S64x256) (constant S256x64 .f32 0x00000000#32))
      (concatenate S256x64 0 [⟨S128x64, haloNum (haloW l qt kl) vl⟩, ⟨S128x64, haloNum (haloW r qb kr) vr⟩] concatenates_S128x64_S128x64_S256x64_d0))
    (broadcastTo S256x64 (addf
      (shapeCast S256x1 (multiReduction .add [1] S256 (ownW m q k) 0x00000000#32 reduces_S256x256_S256 (.inl rfl) rfl) shapeCasts_S256_S256x1)
      (concatenate S256x1 0 [⟨S128x1, haloDen (haloW l qt kl)⟩, ⟨S128x1, haloDen (haloW r qb kr)⟩] concatenates_S128x1_S128x1_S256x1_d0))
      broadcasts_S256x1_S256x64)) bitsLt_bf16_f32

/-- One batch's result: the four contexts side by side, times the output weights. -/
def rowOf (a b c d : FVec F S256x64 .bf16) (w : Vec F S256x512 .bf16) : FVec F S1x256x512 .bf16 :=
  shapeCast S1x256x512 (truncf .bf16 (matmul dot_S256x256_S256x512_S256x512_1_0_0_1_n_n none
    (concatenate S256x256 1 [⟨S256x64, a⟩, ⟨S256x64, b⟩, ⟨S256x64, c⟩, ⟨S256x64, d⟩] concatenates_S256x64_S256x64_S256x64_S256x64_S256x256_d1)
    w (constant S256x512 .f32 0x00000000#32)) bitsLt_bf16_f32) shapeCasts_S256x512_S1x256x512

/-- A head's own columns lie within the scratch. -/
theorem inbC (b : Fin 2) (h : Fin 4) : ∀ a, (![b.val, h.val, 0, 0] : Fin 4 → ℕ) a + S1x1x64x256.size a ≤ S2x4x64x512.size a := by
  revert b h; decide
/-- So do its left halo's, -/
theorem inbL (b : Fin 2) (h : Fin 4) : ∀ a, (![b.val, h.val, 0, 256] : Fin 4 → ℕ) a + S1x1x64x128.size a ≤ S2x4x64x512.size a := by
  revert b h; decide
/-- and its right halo's. -/
theorem inbR (b : Fin 2) (h : Fin 4) : ∀ a, (![b.val, h.val, 0, 384] : Fin 4 → ℕ) a + S1x1x64x128.size a ≤ S2x4x64x512.size a := by
  revert b h; decide
/-- A head's columns lie within the query scratch, -/
theorem inbQ (b : Fin 2) (h : Fin 4) : ∀ a, (![b.val, 0, 64 * h.val] : Fin 3 → ℕ) a + S1x256x64.size a ≤ S2x256x256.size a := by
  revert b h; decide
/-- on the upper half of the rows, -/
theorem inbT (b : Fin 2) (h : Fin 4) : ∀ a, (![b.val, 0, 64 * h.val] : Fin 3 → ℕ) a + S1x128x64.size a ≤ S2x256x256.size a := by
  revert b h; decide
/-- and on the lower half. -/
theorem inbB (b : Fin 2) (h : Fin 4) : ∀ a, (![b.val, 128, 64 * h.val] : Fin 3 → ℕ) a + S1x128x64.size a ≤ S2x256x256.size a := by
  revert b h; decide

/-- The context of batch `b`'s head `h`, from the scratch buffers. -/
def ctxAt (m : FVec F S256x256 .f32) (l r : FVec F S128x128 .f32) (k v : KV F) (q : Vec F S2x256x256 .bf16) (b : Fin 2) (h : Fin 4) : FVec F S256x64 .bf16 :=
  headCtx m l r (qry q b (64 * h) (inbQ b h)) (half q b 0 (64 * h) (inbT b h)) (half q b 128 (64 * h) (inbB b h)) (ctr k b h (inbC b h)) (ctrV v b h (inbC b h))
    (side k b h 256 (inbL b h)) (side k b h 384 (inbR b h)) (sideV v b h 256 (inbL b h)) (sideV v b h 384 (inbR b h))

variable (m : FVec F S256x256 .f32) (l r : FVec F S128x128 .f32) (k v : KV F) (q : Vec F S2x256x256 .bf16) (w : Vec F S256x512 .bf16)

/-- The first batch's rows are the four heads' contexts, times the output matrix. -/
theorem row0_eq : row0 m l r k v q w = rowOf (ctxAt m l r k v q 0 0) (ctxAt m l r k v q 0 1) (ctxAt m l r k v q 0 2) (ctxAt m l r k v q 0 3) w := rfl
/-- So are the second batch's. -/
theorem row1_eq : row1 m l r k v q w = rowOf (ctxAt m l r k v q 1 0) (ctxAt m l r k v q 1 1) (ctxAt m l r k v q 1 2) (ctxAt m l r k v q 1 3) w := rfl

end Any

/-- A head's query block at an index. -/
theorem qry_apply (q : Vec Ideal S2x256x256 .bf16) (b : Fin 2) (h : Fin 4) (i : Fin 256) (e : Fin 64) :
    qry q b (64 * h) (inbQ b h) (ix3 0 i e) = q (ix3 b i ⟨64 * h.val + e.val, by omega⟩) := by
  refine congrArg q (funext fun a => Fin.ext ((Rect.idx_unit_val _ _ _ _ a).trans ?_))
  match a with | 0 => simp | 1 => simp | 2 => simp

/-- The upper half of a head's query block at an index. -/
theorem top_apply (q : Vec Ideal S2x256x256 .bf16) (b : Fin 2) (h : Fin 4) (i : Fin 128) (e : Fin 64) :
    half q b 0 (64 * h) (inbT b h) (ix3 0 i e) = q (ix3 b ⟨i.val, by omega⟩ ⟨64 * h.val + e.val, by omega⟩) := by
  refine congrArg q (funext fun a => Fin.ext ((Rect.idx_unit_val _ _ _ _ a).trans ?_))
  match a with | 0 => simp | 1 => simp | 2 => simp

/-- The lower half of a head's query block at an index. -/
theorem bot_apply (q : Vec Ideal S2x256x256 .bf16) (b : Fin 2) (h : Fin 4) (i : Fin 128) (e : Fin 64) :
    half q b 128 (64 * h) (inbB b h) (ix3 0 i e) = q (ix3 b ⟨128 + i.val, by omega⟩ ⟨64 * h.val + e.val, by omega⟩) := by
  refine congrArg q (funext fun a => Fin.ext ((Rect.idx_unit_val _ _ _ _ a).trans ?_))
  match a with | 0 => simp | 1 => simp | 2 => simp

/-- A head's own columns of a scratch at an index. -/
theorem ctr_apply (f : KV Ideal) (b : Fin 2) (h : Fin 4) (e : Fin 64) (j : Fin 256) :
    ctr f b h (inbC b h) (ix4 0 0 e j) = f (ix4 b h e ⟨j.val, by omega⟩) := by
  refine congrArg f (funext fun a => Fin.ext ((Rect.idx_unit_val _ _ _ _ a).trans ?_))
  match a with | 0 => simp | 1 => simp | 2 => simp | 3 => simp

/-- A head's left halo at an index. -/
theorem left_apply (f : KV Ideal) (b : Fin 2) (h : Fin 4) (e : Fin 64) (j : Fin 128) :
    side f b h 256 (inbL b h) (ix4 0 0 e j) = f (ix4 b h e ⟨256 + j.val, by omega⟩) := by
  refine congrArg f (funext fun a => Fin.ext ((Rect.idx_unit_val _ _ _ _ a).trans ?_))
  match a with | 0 => simp | 1 => simp | 2 => simp | 3 => simp

/-- A head's right halo at an index. -/
theorem right_apply (f : KV Ideal) (b : Fin 2) (h : Fin 4) (e : Fin 64) (j : Fin 128) :
    side f b h 384 (inbR b h) (ix4 0 0 e j) = f (ix4 b h e ⟨384 + j.val, by omega⟩) := by
  refine congrArg f (funext fun a => Fin.ext ((Rect.idx_unit_val _ _ _ _ a).trans ?_))
  match a with | 0 => simp | 1 => simp | 2 => simp | 3 => simp

/-- One batch of x at an index. -/
theorem x0at_apply (x : Vec Ideal S2x256x512 .f32) (b : Fin 2) (inb) (i : Fin 256) (d : Fin 512) : x0at b inb x (ix3 0 i d) = x (ix3 b i d) := by
  refine congrArg x (funext fun a => Fin.ext ((Rect.idx_unit_val _ _ _ _ a).trans ?_))
  match a with | 0 => simp | 1 => simp | 2 => simp

/-- A bit widened to a word, as a number. -/
theorem bit_val (b : BitVec 1) : (((b.setWidth 32).toInt : ℝ) : EReal) = if b = 1#1 then 1 else 0 := by
  rcases BitVec.eq_zero_or_eq_one b with rfl | rfl <;> simp

/-- The conjunction of two truth bits is 1 when both hold. -/
theorem and_bit (a b : Bool) : BitVec.ofBool a &&& BitVec.ofBool b = 1#1 ↔ a = true ∧ b = true := by revert a b; decide
/-- The conjunction of a truth bit and a bit is 1 when the one holds and the other is 1. -/
theorem and_bit' (a : Bool) (b : BitVec 1) : BitVec.ofBool a &&& b = 1#1 ↔ a = true ∧ b = 1#1 := by revert a b; decide

/-- The mask of a device's own keys: a query sees the keys at most 128 places off. -/
theorem pay14_apply (i j : Fin 256) : k0_pay14 (F := Ideal) (ix2 i j) = if j.val ≤ i.val + 128 ∧ i.val ≤ j.val + 128 then 1 else 0 := by
  pointwise [k0_pay14]
  simp only [FloatOps.sitofp, IntOp.andi, IntOp.cmpi, bit_val, and_bit]
  refine if_congr ?_ rfl rfl
  simp only [BitVec.sle_iff_toInt_le, IntOp.subi, IntOp.addi]
  have hi := WordArith.toInt_ofNat_small i.val (by omega)
  have hj := WordArith.toInt_ofNat_small j.val (by omega)
  have h8 : (128#32 : BitVec 32).toInt = 128 := by decide
  rw [WordArith.toInt_sub_of_bounds _ _ (by omega) (by omega), WordArith.toInt_add_of_bounds _ _ (by omega) (by omega), hi, hj, h8]
  omega

/-- The mask of the left halo: nothing where there is no left neighbour, else the keys from the query's own place on. -/
theorem pay15_apply (b : BitVec 1) (i j : Fin 128) : k0_pay15 (F := Ideal) b (ix2 i j) = if i.val ≤ j.val ∧ b = 1#1 then 1 else 0 := by
  pointwise [k0_pay15]
  simp only [FloatOps.sitofp, IntOp.andi, IntOp.cmpi, bit_val, and_bit']
  refine if_congr (and_congr ?_ Iff.rfl) rfl rfl
  rw [BitVec.sle_iff_toInt_le, WordArith.toInt_ofNat_small _ (by omega), WordArith.toInt_ofNat_small _ (by omega)]
  omega

/-- The mask of the right halo: nothing where there is no right neighbour, else the keys up to the query's own place. -/
theorem pay16_apply (b : BitVec 1) (i j : Fin 128) : k0_pay16 (F := Ideal) b (ix2 i j) = if j.val ≤ i.val ∧ b = 1#1 then 1 else 0 := by
  pointwise [k0_pay16]
  simp only [FloatOps.sitofp, IntOp.andi, IntOp.cmpi, bit_val, and_bit']
  refine if_congr (and_congr ?_ Iff.rfl) rfl rfl
  rw [BitVec.sle_iff_toInt_le, WordArith.toInt_ofNat_small _ (by omega), WordArith.toInt_ofNat_small _ (by omega)]
  omega

/-- The queries: the inputs times the query weights, times an eighth. -/
theorem qv_apply (x0 : Vec Ideal S2x256x512 .f32) (x1 : Vec Ideal S512x256 .f32) (b : Fin 2) (i n : Fin 256) :
    qv x0 x1 (ix3 b i n) = (∑ d : Fin 512, (x0 (ix3 b i d) : EReal) * x1 (ix2 d n)) * (FloatOps.ofBits .f32 0x3E000000#32 : Ideal .f32) := by
  unfold qv stackQ
  pointwise [k0_pay12, k0_pay11, k0_pay13, k0_pay10]
  match b with
  | 0 => exact congrArg (· * _) (Finset.sum_congr rfl fun d _ => congrArg (· * _) (x0at_apply x0 0 _ i d))
  | 1 => exact congrArg (· * _) (Finset.sum_congr rfl fun d _ => congrArg (· * _) (x0at_apply x0 1 _ i d))

/-- A key or value scratch on the device's own columns. -/
theorem fullAt_own (own : Dev nD → Vec Ideal S2x4x64x256 .bf16) (z z' : Vec Ideal S2x4x64x128 .bf16) (c : Dev nD) (b : Fin 2) (h : Fin 4) (e : Fin 64) (j : Fin 256) :
    full own z z' c (ix4 b h e ⟨j.val, by omega⟩) = own c (ix4 b h e j) := by
  unfold full
  pointwise
  simp [ix4_eq_valueIdx]

/-- The same on the left halo's columns, where there is a left neighbour: the neighbour's last 128. -/
theorem fullAt_left (own : Dev nD → Vec Ideal S2x4x64x256 .bf16) (z z' : Vec Ideal S2x4x64x128 .bf16) (c : Dev nD) (hc : 0 < c.val) (b : Fin 2) (h : Fin 4)
    (e : Fin 64) (j : Fin 128) : full own z z' c (ix4 b h e ⟨256 + j.val, by omega⟩) = own (lft c) (ix4 b h e ⟨128 + j.val, by omega⟩) := by
  unfold full
  pointwise
  rw [dif_pos (by omega), if_pos hc, ← ix4_eq_valueIdx]
  exact congrArg (fun k => own (lft c) (ix4 b h e k)) (Fin.ext (by simp; omega))

/-- The same on the right halo's columns, where there is a right neighbour: the neighbour's first 128. -/
theorem fullAt_right (own : Dev nD → Vec Ideal S2x4x64x256 .bf16) (z z' : Vec Ideal S2x4x64x128 .bf16) (c : Dev nD) (hc : c.val < 3) (b : Fin 2) (h : Fin 4)
    (e : Fin 64) (j : Fin 128) : full own z z' c (ix4 b h e ⟨384 + j.val, by omega⟩) = own (rgt c) (ix4 b h e ⟨j.val, by omega⟩) := by
  unfold full
  pointwise
  rw [dif_neg (by omega), if_pos hc, ← ix4_eq_valueIdx]

section Ctx

variable (own ownV : Dev nD → Vec Ideal S2x4x64x256 .bf16) (z z' y y' : Vec Ideal S2x4x64x128 .bf16) (c : Dev nD) (q : Vec Ideal S2x256x256 .bf16)
  (b : Fin 2) (h : Fin 4) (K V : ℕ → Fin 64 → EReal)

/-- Row `i`'s query of the head. -/
def qrow (i : Fin 256) : Fin 64 → EReal := fun x => q (ix3 b i ⟨64 * h.val + x.val, by omega⟩)

/-- A device's weight for one of its own places. -/
theorem own_weight (hK : ∀ (d : Dev nD) (j : Fin 256) x, own d (ix4 b h x j) = K (256 * d.val + j.val) x) (i j : Fin 256) :
    Ideal.exp (∑ x : Fin 64, (qry q b (64 * h) (inbQ b h) (ix3 0 i x) : EReal) * ctr (full own z z' c) b h (inbC b h) (ix4 0 0 x j)) * k0_pay14 (F := Ideal) (ix2 i j)
      = wt (qrow q b h i) K (256 * c.val + i.val) (256 * c.val + j.val) := by
  simp only [qry_apply, ctr_apply, fullAt_own, hK, pay14_apply, wt, qrow, mul_ite, mul_one, mul_zero]
  exact if_congr (by unfold Near; omega) rfl rfl

/-- The bit of a left neighbour is 1 on every device but the first. -/
theorem bitL_one (c : Dev nD) : bitL c = 1#1 ↔ 0 < c.val := by revert c; decide
/-- The bit of a right neighbour is 1 on every device but the last. -/
theorem bitR_one (c : Dev nD) : bitR c = 1#1 ↔ c.val < 3 := by revert c; decide

/-- The left halo begins 128 places before the device's own. -/
theorem left_place (c : Dev nD) (hc : 0 < c.val) (j : Fin 128) : 256 * (lft c).val + (128 + j.val) = 256 * c.val - 128 + j.val := by
  have : (lft c).val = c.val - 1 := by revert hc; revert c; decide
  omega
/-- The right halo begins just after the device's own places. -/
theorem right_place (c : Dev nD) (hc : c.val < 3) (j : Fin 128) : 256 * (rgt c).val + j.val = 256 * c.val + 256 + j.val := by
  have : (rgt c).val = c.val + 1 := by revert hc; revert c; decide
  omega

/-- A device's weight for a place of its left halo. -/
theorem left_weight (hK : ∀ (d : Dev nD) (j : Fin 256) x, own d (ix4 b h x j) = K (256 * d.val + j.val) x) (i j : Fin 128) :
    Ideal.exp (∑ x : Fin 64, (half q b 0 (64 * h) (inbT b h) (ix3 0 i x) : EReal) * side (full own z z' c) b h 256 (inbL b h) (ix4 0 0 x j))
        * k0_pay15 (F := Ideal) (bitL c) (ix2 i j)
      = if 0 < c.val then wt (qrow q b h ⟨i.val, by omega⟩) K (256 * c.val + i.val) (256 * c.val - 128 + j.val) else 0 := by
  rw [pay15_apply, mul_ite, mul_one, mul_zero]
  by_cases hc : 0 < c.val
  · have hl := left_place c hc j
    simp only [top_apply, left_apply, fullAt_left _ _ _ _ hc, hK, wt, qrow, hl, if_pos hc]
    exact if_congr (by rw [bitL_one]; unfold Near; omega) rfl rfl
  · rw [if_neg hc, if_neg fun hb => hc ((bitL_one c).mp hb.2)]

/-- A device's weight for a place of its right halo. -/
theorem right_weight (hK : ∀ (d : Dev nD) (j : Fin 256) x, own d (ix4 b h x j) = K (256 * d.val + j.val) x) (i j : Fin 128) :
    Ideal.exp (∑ x : Fin 64, (half q b 128 (64 * h) (inbB b h) (ix3 0 i x) : EReal) * side (full own z z' c) b h 384 (inbR b h) (ix4 0 0 x j))
        * k0_pay16 (F := Ideal) (bitR c) (ix2 i j)
      = if c.val < 3 then wt (qrow q b h ⟨128 + i.val, by omega⟩) K (256 * c.val + (128 + i.val)) (256 * c.val + 256 + j.val) else 0 := by
  rw [pay16_apply, mul_ite, mul_one, mul_zero]
  by_cases hc : c.val < 3
  · have hr := right_place c hc j
    simp only [bot_apply, right_apply, fullAt_right _ _ _ _ hc, hK, wt, qrow, hr, if_pos hc]
    exact if_congr (by rw [bitR_one]; unfold Near; omega) rfl rfl
  · rw [if_neg hc, if_neg fun hb => hc ((bitR_one c).mp hb.2)]

/-- A head's context, at an index: over all 1024 places the weighted values over the sum of the weights. -/
theorem ctxAt_apply (hK : ∀ (d : Dev nD) (j : Fin 256) x, own d (ix4 b h x j) = K (256 * d.val + j.val) x)
    (hV : ∀ (d : Dev nD) (j : Fin 256) x, ownV d (ix4 b h x j) = V (256 * d.val + j.val) x) (i : Fin 256) (e : Fin 64) :
    ctxAt k0_pay14 (k0_pay15 (bitL c)) (k0_pay16 (bitR c)) (full own z z' c) (full ownV y y' c) q b h (ix2 i e)
      = Ideal.div (∑ J : Fin 1024, wt (qrow q b h i) K (256 * c.val + i.val) J.val * V J.val e) (∑ J : Fin 1024, wt (qrow q b h i) K (256 * c.val + i.val) J.val) := by
  have hv : ∀ j : Fin 256, ctrV (full ownV y y' c) b h (inbC b h) (ix4 0 0 e j) = V (256 * c.val + j.val) e := fun j =>
    (ctr_apply _ b h e j).trans ((fullAt_own ownV y y' c b h e j).trans (hV c j e))
  have hl : ∀ (hc : 0 < c.val) (j : Fin 128), sideV (full ownV y y' c) b h 256 (inbL b h) (ix4 0 0 e j) = V (256 * c.val - 128 + j.val) e := fun hc j =>
    (left_apply _ b h e j).trans ((fullAt_left ownV y y' c hc b h e j).trans ((hV _ _ _).trans (by rw [left_place c hc])))
  have hr : ∀ (hc : c.val < 3) (j : Fin 128), sideV (full ownV y y' c) b h 384 (inbR b h) (ix4 0 0 e j) = V (256 * c.val + 256 + j.val) e := fun hc j =>
    (right_apply _ b h e j).trans ((fullAt_right ownV y y' c hc b h e j).trans ((hV _ _ _).trans (by rw [right_place c hc])))
  have hfar : ∀ J, ¬ Near (256 * c.val + i.val) J → wt (qrow q b h i) K (256 * c.val + i.val) J = 0 := fun J hJ => if_neg hJ
  have hfar' : ∀ J, ¬ Near (256 * c.val + i.val) J → wt (qrow q b h i) K (256 * c.val + i.val) J * V J e = 0 := fun J hJ => by rw [hfar J hJ, zero_mul]
  pointwise [ctxAt, headCtx, haloNum, haloDen, haloW, ownW]
  simp only [own_weight own z z' c q b h K hK, left_weight own z z' c q b h K hK, right_weight own z z' c q b h K hK, hv]
  by_cases hi : i.val < 128
  · rw [dif_pos hi, dif_pos hi, sum_upper _ c.val i.val c.isLt hi hfar', sum_upper _ c.val i.val c.isLt hi hfar]
    refine congrArg (Ideal.div · _) (congrArg (_ + ·) (Finset.sum_congr rfl fun j _ => ?_))
    by_cases hc : 0 < c.val
    · rw [if_pos hc, if_pos hc, hl hc]
    · rw [if_neg hc, if_neg hc, zero_mul]
  · have hrow : (⟨128 + (i.val - 128), by omega⟩ : Fin 256) = i := Fin.ext (by simp; omega)
    rw [dif_neg hi, dif_neg hi, sum_lower _ c.val i.val c.isLt (by omega) i.isLt hfar', sum_lower _ c.val i.val c.isLt (by omega) i.isLt hfar]
    simp only [hrow, show 128 + (i.val - 128) = i.val by omega]
    refine congrArg (Ideal.div · _) (congrArg (_ + ·) (Finset.sum_congr rfl fun j _ => ?_))
    by_cases hc : c.val < 3
    · rw [if_pos hc, if_pos hc, hr hc]
    · rw [if_neg hc, if_neg hc, zero_mul]

end Ctx

end Cert.KernelIdeal.Halo

end
-- ==== Proof.KernelValue.lean ====
/-
  The kernel's result at an index, of the arrays the devices hold.
-/
module

public import proofs.«01_k».proof.Proof.Contexts
public import proofs.«01_k».proof.Proof.Mesh
public import Idealize.ShloMosaic.Lib.Pipeline.ValueKit.Point

@[expose] public section

set_option maxRecDepth 16384

noncomputable section

namespace Cert.KernelIdeal.Halo

open Idealize.ShloMosaic Idealize.ShloMosaic.TcCoe
open Cert.KernelIdeal Cert.KernelIdeal.Gen Cert.Halo

variable (m : (ℓ : Loc nD τ sig) → Buf (Elt Ideal) ℓ) (c : Dev nD)

/-- The host turns the keys: heads before rows, rows last. -/
theorem V_keys : V m c main_v1 = transpose S2x4x64x256 [0, 2, 3, 1] (m (c.tc.loc main_arg2)) transposes_S2x256x4x64_S2x4x64x256_0_2_3_1 := by
  simp only [V, hostOps0]
  after_results_simp <;> rfl

/-- The host turns the values the same way. -/
theorem V_values : V m c main_v2 = transpose S2x4x64x256 [0, 2, 3, 1] (m (c.tc.loc main_arg3)) transposes_S2x256x4x64_S2x4x64x256_0_2_3_1 := by
  simp only [V, hostOps0]
  after_results_simp <;> rfl

/-- Each window's one block begins at the origin. -/
theorem origin : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) ∧ ∀ a, win0_5.index t0_0 a = 0 := by
  decide +kernel

/-- The block of queries' rows is the whole of the device's part. -/
theorem in0_eq : in0 m c = m (c.tc.loc main_arg0) := by
  funext j
  refine (congrFun (V_main_arg0 m c) _).trans (congrArg (m (c.tc.loc main_arg0)) ?_)
  blk_ext [origin.1]

/-- The query matrix is taken whole. -/
theorem in1_eq : in1 m c = m (c.tc.loc main_arg1) := by
  funext j
  refine (congrFun (V_main_arg1 m c) _).trans (congrArg (m (c.tc.loc main_arg1)) ?_)
  blk_ext [origin.2.1]

/-- The output matrix is taken whole. -/
theorem in4_eq : in4 m c = m (c.tc.loc main_arg4) := by
  funext j
  refine (congrFun (V_main_arg4 m c) _).trans (congrArg (m (c.tc.loc main_arg4)) ?_)
  blk_ext [origin.2.2.2.2.1]

/-- The turned keys at an index: the two middle axes of the argument moved behind the heads. -/
theorem in2_apply (b : Fin 2) (h : Fin 4) (e : Fin 64) (j : Fin 256) : in2 m c (ix4 b h e j) = m (c.tc.loc main_arg2) (ix4 b j h e) := by
  have hw : in2 m c = V m c main_v1 := by
    funext j
    refine congrArg (V m c main_v1) ?_
    blk_ext [origin.2.2.1]
  rw [hw, V_keys]
  pointwise

/-- The turned values at an index. -/
theorem in3_apply (b : Fin 2) (h : Fin 4) (e : Fin 64) (j : Fin 256) : in3 m c (ix4 b h e j) = m (c.tc.loc main_arg3) (ix4 b j h e) := by
  have hw : in3 m c = V m c main_v2 := by
    funext j
    refine congrArg (V m c main_v2) ?_
    blk_ext [origin.2.2.2.1]
  rw [hw, V_values]
  pointwise

/-- The result array after the run is the one block the body leaves. -/
theorem arr_eq : (dat0 m c).arrAt 5 cfg0.N = out m c := by
  refine (dat0 m c).arrAt_eq_of_after_last 5 t0_0 (by decide +kernel) _ fun j => ?_
  refine congrArg (out m c) ?_
  blk_ext [origin.2.2.2.2.2]

/-- One batch's row of the result: the four heads' contexts side by side, times the output matrix. -/
theorem rowOf_apply (a : Fin 4 → Fin 64 → EReal) (c0 c1 c2 c3 : Vec Ideal S256x64 .bf16) (w : Vec Ideal S256x512 .bf16) (i : Fin 256) (n : Fin 512)
    (h0 : ∀ e, c0 (ix2 i e) = a 0 e) (h1 : ∀ e, c1 (ix2 i e) = a 1 e) (h2 : ∀ e, c2 (ix2 i e) = a 2 e) (h3 : ∀ e, c3 (ix2 i e) = a 3 e) :
    rowOf c0 c1 c2 c3 w (ix3 0 i n)
      = ∑ r : Fin 256, a ⟨r.val / 64, by omega⟩ ⟨r.val % 64, Nat.mod_lt _ (by decide)⟩ * w (ix2 r n) := by
  pointwise [rowOf]
  refine Finset.sum_congr rfl fun r _ => congrArg (· * w (ix2 r n)) ?_
  have hr := r.isLt
  by_cases k0 : r.val < 64
  · refine (dif_pos k0).trans ((h0 _).trans ?_)
    congr 1 <;> exact Fin.ext (by simp; omega)
  refine (dif_neg k0).trans ?_
  by_cases k1 : r.val - 64 < 64
  · refine (dif_pos k1).trans ((h1 _).trans ?_)
    congr 1 <;> exact Fin.ext (by simp; omega)
  refine (dif_neg k1).trans ?_
  by_cases k2 : r.val - 64 - 64 < 64
  · refine (dif_pos k2).trans ((h2 _).trans ?_)
    congr 1 <;> exact Fin.ext (by simp; omega)
  refine (dif_neg k2).trans ((h3 _).trans ?_)
  congr 1 <;> exact Fin.ext (by simp; omega)

/-- The query row of batch `b`, head `h`, in row `i` of a device's part: the row of x times the head's columns of the query matrix, times the scale. -/
def queryRow (x : Vec Ideal S2x256x512 .f32) (w : Vec Ideal S512x256 .f32) (b : Fin 2) (h : Fin 4) (i : Fin 256) : Fin 64 → EReal := fun y =>
  (∑ d : Fin 512, (x (ix3 b i d) : EReal) * w (ix2 d ⟨64 * h.val + y.val, by omega⟩)) * Ideal.ofBits .f32 0x3E000000#32

/-- A row of the query scratch is the query row. -/
theorem qrow_eq (x : Vec Ideal S2x256x512 .f32) (w : Vec Ideal S512x256 .f32) (b : Fin 2) (h : Fin 4) (i : Fin 256) : qrow (qv x w) b h i = queryRow x w b h i := by
  funext y
  unfold qrow
  rw [qv_apply]
  rfl

/-- The keys' cast changes nothing, -/
theorem pay2_apply (x : Vec Ideal S2x4x64x256 .f32) (i : S2x4x64x256.Idx) : k0_pay2 x i = x i := by
  pointwise [k0_pay2]

/-- nor the values', -/
theorem pay3_apply (x : Vec Ideal S2x4x64x256 .f32) (i : S2x4x64x256.Idx) : k0_pay3 x i = x i := by
  pointwise [k0_pay3]

/-- nor the output matrix's. -/
theorem pay9_apply (x : Vec Ideal S256x512 .f32) (i : S256x512.Idx) : k0_pay9 x i = x i := by
  pointwise [k0_pay9]

variable (K V' : Fin 2 → Fin 4 → ℕ → Fin 64 → EReal)

/-- A head's context, as the device computes it, of the keys and values of all devices. -/
theorem context_apply (hK : ∀ (b : Fin 2) (h : Fin 4) (d : Dev nD) (j : Fin 256) (x : Fin 64), m (d.tc.loc main_arg2) (ix4 b j h x) = K b h (256 * d.val + j.val) x)
    (hV : ∀ (b : Fin 2) (h : Fin 4) (d : Dev nD) (j : Fin 256) (x : Fin 64), m (d.tc.loc main_arg3) (ix4 b j h x) = V' b h (256 * d.val + j.val) x)
    (b : Fin 2) (h : Fin 4) (i : Fin 256) (e : Fin 64) :
    ctxAt k0_pay14 (k0_pay15 (bitL c)) (k0_pay16 (bitR c)) (KF (in2 m) c) (VF (in3 m) c) (qv (in0 m c) (in1 m c)) b h (ix2 i e)
      = head (queryRow (in0 m c) (in1 m c) b h i) (K b h) (V' b h) (256 * c.val + i.val) e := by
  rw [← qrow_eq]
  exact ctxAt_apply _ _ _ _ _ _ c _ b h (K b h) (V' b h)
    (fun d j x => (pay2_apply _ _).trans ((in2_apply m d b h x j).trans (hK b h d j x)))
    (fun d j x => (pay3_apply _ _).trans ((in3_apply m d b h x j).trans (hV b h d j x))) i e

/-- The two batches' rows laid together, read at a batch. -/
theorem stack_rows (mask : FVec Ideal S256x256 .f32) (l r : FVec Ideal S128x128 .f32) (k v : KV Ideal) (q : Vec Ideal S2x256x256 .bf16) (w : Vec Ideal S256x512 .bf16)
    (b : Fin 2) (i : Fin 256) (n : Fin 512) :
    stackO (row0 mask l r k v q w) (row1 mask l r k v q w) (ix3 b i n)
      = rowOf (ctxAt mask l r k v q b 0) (ctxAt mask l r k v q b 1) (ctxAt mask l r k v q b 2) (ctxAt mask l r k v q b 3) w (ix3 0 i n) := by
  rw [row0_eq, row1_eq]
  match b with
  | 0 => exact if_pos rfl
  | 1 => exact if_neg Nat.one_ne_zero

/-- A device's result: its rows' contexts, head after head, times the output matrix. -/
theorem out_apply (hK : ∀ (b : Fin 2) (h : Fin 4) (d : Dev nD) (j : Fin 256) (x : Fin 64), m (d.tc.loc main_arg2) (ix4 b j h x) = K b h (256 * d.val + j.val) x)
    (hV : ∀ (b : Fin 2) (h : Fin 4) (d : Dev nD) (j : Fin 256) (x : Fin 64), m (d.tc.loc main_arg3) (ix4 b j h x) = V' b h (256 * d.val + j.val) x)
    (b : Fin 2) (i : Fin 256) (n : Fin 512) :
    out m c (ix3 b i n) = ∑ r : Fin 256, head (queryRow (in0 m c) (in1 m c) b ⟨r.val / 64, by omega⟩ i) (K b ⟨r.val / 64, by omega⟩) (V' b ⟨r.val / 64, by omega⟩)
      (256 * c.val + i.val) ⟨r.val % 64, Nat.mod_lt _ (by decide)⟩ * in4 m c (ix2 r n) := by
  have hrow := rowOf_apply (fun h e => head (queryRow (in0 m c) (in1 m c) b h i) (K b h) (V' b h) (256 * c.val + i.val) e) _ _ _ _ (k0_pay9 (in4 m c)) i n
    (context_apply m c K V' hK hV b 0 i) (context_apply m c K V' hK hV b 1 i) (context_apply m c K V' hK hV b 2 i) (context_apply m c K V' hK hV b 3 i)
  simp only [pay9_apply] at hrow
  exact (stack_rows _ _ _ _ _ _ _ b i n).trans hrow

end Cert.KernelIdeal.Halo

end
-- ==== Proof.RefValue.lean ====
/-
  The reference's result at an index.
-/
module

public import proofs.«01_k».proof.Proof.Gen.ReferenceIdeal.Run
public import proofs.«01_k».proof.Proof.Softmax
public import Idealize.ShloMosaic.Lib.Pointwise
public import Idealize.ShloMosaic.Lib.WordArith

@[expose] public section

set_option maxRecDepth 16384

noncomputable section

namespace Cert.ReferenceIdeal.Halo

open Idealize.ShloMosaic Idealize.ShloMosaic.TcCoe
open Cert.ReferenceIdeal Cert.ReferenceIdeal.Gen Cert.Halo

/-- Which pairs of places are near. -/
def near : IVec S1024x1024 1 :=
  cmpi .sle (absi (subi
      (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))

/-- Which places have a near one. -/
def kept : IVec S1024 1 := Host.reduce IntOp.ori near (constantI S_ 1 0#1) reducesTo_S1024x1024_S1024_d1 h_S_

/-- The scores, −∞ off the band. -/
def scores (x : FVec Ideal S2x1024x512 .f32) (wq : FVec Ideal S512x256 .f32) (k : FVec Ideal S2x1024x4x64 .f32) : FVec Ideal S2x4x1024x1024 .f32 :=
  select (broadcastInDim S2x4x1024x1024 ![0, 1, 2, 3] bcast_S1x1x1024x1024_S2x4x1024x1024_0_1_2_3
      (broadcastInDim S1x1x1024x1024 ![2, 3] bcast_S1024x1024_S1x1x1024x1024_2_3 near))
    (mulf (Host.dotGeneral dot_S2x1024x4x64_S2x1024x4x64_S2x4x1024x1024_3_3_1_1_02_02 none
        (shapeCast _ (Host.dotGeneral dot_S2x1024x512_S512x256_S2x1024x256_2_0_01_1_n_n none x wq) shapeCasts_S2x1024x256_S2x1024x4x64) k)
      (broadcastInDim S2x4x1024x1024 ![] bcast_S_S2x4x1024x1024 (constant S_ .f32 0x3E000000#32)))
    (broadcastInDim S2x4x1024x1024 ![] bcast_S_S2x4x1024x1024 (id (constant S_ .f32 0xFF800000#32)))

/-- The exponentials of the scores less each row's greatest. -/
def weights (s : FVec Ideal S2x4x1024x1024 .f32) : FVec Ideal S2x4x1024x1024 .f32 :=
  Host.exp (subf s (broadcastInDim S2x4x1024x1024 ![0, 1, 2, 3] bcast_S2x4x1024x1_S2x4x1024x1024_0_1_2_3
    (broadcastInDim S2x4x1024x1 ![0, 1, 2] bcast_S2x4x1024_S2x4x1024x1_0_1_2
      (Host.reduce FloatOps.maximumf s (constant S_ .f32 0xFF800000#32) reducesTo_S2x4x1024x1024_S2x4x1024_d3 h_S_))))

/-- The weights over their sums. -/
def shares (w : FVec Ideal S2x4x1024x1024 .f32) : FVec Ideal S2x4x1024x1024 .f32 :=
  select (broadcastInDim S2x4x1024x1024 ![0, 1, 2, 3] bcast_S1x1x1024x1_S2x4x1024x1024_0_1_2_3 (broadcastInDim S1x1x1024x1 ![2] bcast_S1024_S1x1x1024x1_2 kept))
    (Host.divf w (broadcastInDim S2x4x1024x1024 ![0, 1, 2, 3] bcast_S2x4x1024x1_S2x4x1024x1024_0_1_2_3
      (select (broadcastInDim S2x4x1024x1 ![0, 1, 2, 3] bcast_S1x1x1024x1_S2x4x1024x1_0_1_2_3 (broadcastInDim S1x1x1024x1 ![2] bcast_S1024_S1x1x1024x1_2 kept))
        (broadcastInDim S2x4x1024x1 ![0, 1, 2] bcast_S2x4x1024_S2x4x1024x1_0_1_2
          (Host.reduceAdd w (constant S_ .f32 0x00000000#32) reducesTo_S2x4x1024x1024_S2x4x1024_d3 h_S_))
        (broadcastInDim S2x4x1024x1 ![] bcast_S_S2x4x1024x1 (id (constant S_ .f32 0x3F800000#32))))))
    (broadcastInDim S2x4x1024x1024 ![] bcast_S_S2x4x1024x1024 (id (constant S_ .f32 0x00000000#32)))

/-- The contexts times the output weights. -/
def result (p : FVec Ideal S2x4x1024x1024 .f32) (v : FVec Ideal S2x1024x4x64 .f32) (wo : FVec Ideal S256x512 .f32) : FVec Ideal S2x1024x512 .bf16 :=
  truncf .bf16 (Host.dotGeneral dot_S2x1024x256_S256x512_S2x1024x512_2_0_01_1_n_n none
    (shapeCast _ (transpose S2x1024x4x64 [0, 3, 1, 2] (Host.dotGeneral dot_S2x1024x4x64_S2x4x1024x1024_S2x4x64x1024_1_3_3_2_02_01 none v p)
      transposes_S2x4x64x1024_S2x1024x4x64_0_3_1_2) shapeCasts_S2x1024x4x64_S2x1024x256) wo) bitsLt_bf16_f32

/-- The reference's result is these steps, one after another. -/
theorem res_eq (m : (ℓ : Loc nD τ sig) → Buf (Elt Ideal) ℓ) (c : Dev nD) :
    Value.res_main_v35 m c = result (shares (weights (scores (m (c.tc.loc main_arg0)) (m (c.tc.loc main_arg1)) (m (c.tc.loc main_arg2)))))
      (m (c.tc.loc main_arg3)) (m (c.tc.loc main_arg4)) := rfl

/-- The distance of two places, as a word, is their distance. -/
theorem abs_word (I J : Fin 1024) : (IntOp.absi (IntOp.subi (BitVec.ofNat 32 I.val) (BitVec.ofNat 32 J.val))).toInt = |(I.val : ℤ) - J.val| := by
  have hi := WordArith.toInt_ofNat_small I.val (by omega)
  have hj := WordArith.toInt_ofNat_small J.val (by omega)
  have hs := WordArith.toInt_subi_of_nonneg (BitVec.ofNat 32 I.val) (BitVec.ofNat 32 J.val) (by omega) (by omega)
  rw [hi, hj] at hs
  unfold IntOp.absi
  rw [BitVec.msb_eq_toInt]
  by_cases hn : (IntOp.subi (BitVec.ofNat 32 I.val) (BitVec.ofNat 32 J.val)).toInt < 0
  · have hmin : IntOp.subi (BitVec.ofNat 32 I.val) (BitVec.ofNat 32 J.val) ≠ BitVec.intMin 32 := fun h => by
      have h0 : (BitVec.intMin 32).toInt = -2147483648 := by decide
      rw [h] at hs
      omega
    rw [if_pos (by simpa using hn), BitVec.toInt_neg_of_ne_intMin hmin, hs, abs_of_neg (by omega)]
  · rw [if_neg (by simpa using hn), hs, abs_of_nonneg (by omega)]

/-- The mask at a pair of places. -/
theorem near_apply (I J : Fin 1024) : near (ix2 I J) = BitVec.ofBool (decide (Near I.val J.val)) := by
  pointwise [near]
  unfold IntOp.cmpi
  refine congrArg BitVec.ofBool (Bool.eq_iff_iff.mpr ?_)
  have h8 : (128#32 : BitVec 32).toInt = 128 := by decide
  rw [BitVec.sle_iff_toInt_le, abs_word, h8, decide_eq_true_iff, abs_le]
  unfold Near; omega

/-- A disjunction with the true bit is true. -/
theorem or_one (w : BitVec 1) : IntOp.ori (BitVec.ofBool true) w = 1#1 := by revert w; decide

/-- Every place has a near one: itself. -/
theorem kept_apply (I : Fin 1024) : kept (ix1 I) = 1#1 := by
  unfold kept
  refine (Host.reduce_eq_fold IntOp.ori near (constantI S_ 1 0#1) reducesTo_S1024x1024_S1024_d1 h_S_ (ix1 I)).trans ?_
  have hI : (ix2 I I : S1024x1024.Idx) ∈ Finset.univ.filter fun i => (reducesTo_S1024x1024_S1024_d1).drop i = ix1 I := by
    rw [Finset.mem_filter]
    exact ⟨Finset.mem_univ _, by funext a; match a with | 0 => rfl⟩
  rw [← Finset.insert_erase hI, Finset.fold_insert (Finset.notMem_erase _ _), near_apply, decide_eq_true (by unfold Near; omega)]
  exact or_one _

/-- The word of −∞. -/
theorem bot_word : Ideal.ofBits .f32 0xFF800000#32 = ⊥ := by simp [Ideal.ofBits, Ideal.ieee]

/-- The scale is a real number. -/
theorem eighth_word : IsReal (Ideal.ofBits .f32 0x3E000000#32) := by
  refine ⟨1 / 8, ?_⟩
  simp [Ideal.ofBits, Ideal.ieee, -EReal.coe_mul]; norm_num

variable (x : FVec Ideal S2x1024x512 .f32) (wq : FVec Ideal S512x256 .f32) (k v : FVec Ideal S2x1024x4x64 .f32) (wo : FVec Ideal S256x512 .f32)

/-- A query before scaling. -/
def rawQ (b : Fin 2) (h : Fin 4) (I : Fin 1024) (y : Fin 64) : EReal :=
  ∑ d : Fin 512, (x (ix3 b I d) : EReal) * wq (ix2 d ⟨h.val * 64 + y.val, by omega⟩)

/-- The score of a pair of places: the scaled product where they are near, −∞ where not. -/
theorem scores_apply (b : Fin 2) (h : Fin 4) (I J : Fin 1024) :
    scores x wq k (ix4 b h I J)
      = if Near I.val J.val then (∑ y, rawQ x wq b h I y * k (ix4 b J h y)) * Ideal.ofBits .f32 0x3E000000#32 else ⊥ := by
  pointwise [scores]
  rw [near_apply]
  by_cases hn : Near I.val J.val
  · rw [if_pos hn, decide_eq_true hn]; rfl
  · rw [if_neg hn, decide_eq_false hn]; exact bot_word

/-- The weight of a pair of places. -/
theorem weights_apply (s : FVec Ideal S2x4x1024x1024 .f32) (b : Fin 2) (h : Fin 4) (I J : Fin 1024) :
    weights s (ix4 b h I J)
      = Ideal.exp (s (ix4 b h I J) - (Finset.univ : Finset (Fin 1024)).fold max ⊥ fun L => (s (ix4 b h I L) : EReal)) := by
  pointwise [weights]
  rw [bot_word]

/-- The share of a pair of places: its weight over the row's sum. -/
theorem shares_apply (w : FVec Ideal S2x4x1024x1024 .f32) (b : Fin 2) (h : Fin 4) (I J : Fin 1024) :
    shares w (ix4 b h I J) = Ideal.div (w (ix4 b h I J)) (∑ L : Fin 1024, (w (ix4 b h I L) : EReal)) := by
  pointwise [shares]
  rw [kept_apply]; rfl

/-- The result at an index: the heads' contexts side by side, times the output matrix. -/
theorem result_apply (p : FVec Ideal S2x4x1024x1024 .f32) (b : Fin 2) (I : Fin 1024) (n : Fin 512) :
    result p v wo (ix3 b I n) = ∑ r : Fin 256,
      (∑ J : Fin 1024, (v (ix4 b J ⟨r.val / 64, by omega⟩ ⟨r.val % 64, by omega⟩) : EReal) * p (ix4 b ⟨r.val / 64, by omega⟩ I J)) * wo (ix2 r n) := by
  pointwise [result]

/-- The reference's result at an index: the heads' contexts side by side, times the output weights. -/
theorem reference_apply (hx : ∀ i, IsReal (x i)) (hwq : ∀ i, IsReal (wq i)) (hk : ∀ i, IsReal (k i)) (b : Fin 2) (I : Fin 1024) (n : Fin 512) :
    result (shares (weights (scores x wq k))) v wo (ix3 b I n) = ∑ r : Fin 256,
      head (fun y => rawQ x wq b ⟨r.val / 64, by omega⟩ I y * Ideal.ofBits .f32 0x3E000000#32) (rows fun J y => k (ix4 b J ⟨r.val / 64, by omega⟩ y))
        (rows fun J y => v (ix4 b J ⟨r.val / 64, by omega⟩ y)) I.val ⟨r.val % 64, by omega⟩ * wo (ix2 r n) := by
  rw [result_apply]
  refine Finset.sum_congr rfl fun r _ => congrArg (· * _) ?_
  simp only [shares_apply, weights_apply]
  exact softmax_head I _ (fun J y => k (ix4 b J ⟨r.val / 64, by omega⟩ y)) _ (fun J y => v (ix4 b J ⟨r.val / 64, by omega⟩ y)) _
    (fun y => isReal_sum _ _ fun d => isReal_mul (hx _) (hwq _)) (fun J y => hk _) eighth_word _ (fun J => scores_apply x wq k b _ I J)

end Cert.ReferenceIdeal.Halo

end
-- ==== Proof.Algebraic.lean ====
/-
  The kernel over the extended reals leaves on each device its rows of what the reference leaves.
-/
module

public import proofs.«01_k».proof.Defs
public import proofs.«01_k».proof.Proof.Finite
public import proofs.«01_k».proof.Proof.KernelValue
public import proofs.«01_k».proof.Proof.RefValue

@[expose] public section

set_option maxRecDepth 16384

noncomputable section

namespace Cert.Halo

open Idealize.ShloMosaic Idealize.ShloMosaic.TcCoe Idealize.SL.Sem

/-- Row `i` of device `c`'s part of an array of three axes is row `256 c + i` of the whole. -/
theorem block3_apply {α : Type} (v : (⟨3, ![2, 1024, 512]⟩ : Shape).Idx → α) (c : Fin 4) (b : Fin 2) (i : Fin 256) (n : Fin 512) :
    Layout.block ⟨3, ![2, 256, 512]⟩ ⟨3, ![2, 1024, 512]⟩ 1 4 c v (by decide) (ix3 b i n) = v (ix3 b ⟨256 * c.val + i.val, by omega⟩ n) := by
  refine congrArg v (funext fun a => Fin.ext ?_)
  match a with
  | 0 => rfl
  | 1 => exact congrArg (· + i.val) (Nat.mul_comm _ _)
  | 2 => rfl

/-- The same of an array of four axes. -/
theorem block4_apply {α : Type} (v : (⟨4, ![2, 1024, 4, 64]⟩ : Shape).Idx → α) (c : Fin 4) (b : Fin 2) (i : Fin 256) (h : Fin 4) (x : Fin 64) :
    Layout.block ⟨4, ![2, 256, 4, 64]⟩ ⟨4, ![2, 1024, 4, 64]⟩ 1 4 c v (by decide) (ix4 b i h x) = v (ix4 b ⟨256 * c.val + i.val, by omega⟩ h x) := by
  refine congrArg v (funext fun a => Fin.ext ?_)
  match a with
  | 0 => rfl
  | 1 => exact congrArg (· + i.val) (Nat.mul_comm _ _)
  | 2 => rfl
  | 3 => rfl

/-- An array of three axes whose every part is real is real. -/
theorem real_of_blocks3 (v : (⟨3, ![2, 1024, 512]⟩ : Shape).Idx → EReal)
    (h : ∀ (c : Fin 4) i, IsReal (Layout.block ⟨3, ![2, 256, 512]⟩ ⟨3, ![2, 1024, 512]⟩ 1 4 c v (by decide) i)) (i) : IsReal (v i) := by
  obtain ⟨b, I, n, rfl⟩ : ∃ b I n, i = ix3 b I n := ⟨i 0, i 1, i 2, (ix3_eta i).symm⟩
  have := h ⟨I.val / 256, by omega⟩ (ix3 b ⟨I.val % 256, Nat.mod_lt _ (by decide)⟩ n)
  rw [block3_apply] at this
  simpa only [Nat.div_add_mod] using this

/-- The same of an array of four axes. -/
theorem real_of_blocks4 (v : (⟨4, ![2, 1024, 4, 64]⟩ : Shape).Idx → EReal)
    (h : ∀ (c : Fin 4) i, IsReal (Layout.block ⟨4, ![2, 256, 4, 64]⟩ ⟨4, ![2, 1024, 4, 64]⟩ 1 4 c v (by decide) i)) (i) : IsReal (v i) := by
  obtain ⟨b, I, g, x, rfl⟩ : ∃ b I g x, i = ix4 b I g x := ⟨i 0, i 1, i 2, i 3, (ix4_eta i).symm⟩
  have := h ⟨I.val / 256, by omega⟩ (ix4 b ⟨I.val % 256, Nat.mod_lt _ (by decide)⟩ g x)
  rw [block4_apply] at this
  simpa only [Nat.div_add_mod] using this

open Cert.ReferenceIdeal.Halo Cert.KernelIdeal.Halo in
/-- Each device's result is its part of the reference's, when x, the query matrix and the keys are real. -/
theorem out_eq (m : (ℓ : Loc Cert.KernelIdeal.nD Cert.KernelIdeal.τ Cert.KernelIdeal.sig) → Buf (Elt Ideal) ℓ)
    (x : FVec Ideal Cert.ReferenceIdeal.S2x1024x512 .f32) (wq : FVec Ideal Cert.ReferenceIdeal.S512x256 .f32)
    (k v : FVec Ideal Cert.ReferenceIdeal.S2x1024x4x64 .f32) (wo : FVec Ideal Cert.ReferenceIdeal.S256x512 .f32)
    (h0 : ∀ c : Dev Cert.KernelIdeal.nD, m (c.tc.loc Cert.KernelIdeal.main_arg0) = Layout.block ⟨3, ![2, 256, 512]⟩ ⟨3, ![2, 1024, 512]⟩ 1 4 c x)
    (h1 : ∀ c : Dev Cert.KernelIdeal.nD, m (c.tc.loc Cert.KernelIdeal.main_arg1) = wq)
    (h2 : ∀ c : Dev Cert.KernelIdeal.nD, m (c.tc.loc Cert.KernelIdeal.main_arg2) = Layout.block ⟨4, ![2, 256, 4, 64]⟩ ⟨4, ![2, 1024, 4, 64]⟩ 1 4 c k)
    (h3 : ∀ c : Dev Cert.KernelIdeal.nD, m (c.tc.loc Cert.KernelIdeal.main_arg3) = Layout.block ⟨4, ![2, 256, 4, 64]⟩ ⟨4, ![2, 1024, 4, 64]⟩ 1 4 c v)
    (h4 : ∀ c : Dev Cert.KernelIdeal.nD, m (c.tc.loc Cert.KernelIdeal.main_arg4) = wo)
    (hx : ∀ i, IsReal (x i)) (hwq : ∀ i, IsReal (wq i)) (hk : ∀ i, IsReal (k i)) (c : Dev Cert.KernelIdeal.nD) :
    out m c = Layout.block ⟨3, ![2, 256, 512]⟩ ⟨3, ![2, 1024, 512]⟩ 1 4 c (result (shares (weights (scores x wq k))) v wo) := by
  funext j
  obtain ⟨b, i, n, rfl⟩ : ∃ b i n, j = ix3 b i n := ⟨j 0, j 1, j 2, (ix3_eta j).symm⟩
  have hc : c.val < 4 := c.isLt
  rw [block3_apply, reference_apply x wq k v wo hx hwq hk]
  rw [out_apply m c (fun b h => rows fun J y => k (ix4 b J h y)) (fun b h => rows fun J y => v (ix4 b J h y))
    (fun b h d j y => by rw [h2, block4_apply]; exact (rows_val (fun J y => k (ix4 b J h y)) ⟨256 * d.val + j.val, by have : d.val < 4 := d.isLt; omega⟩ y).symm)
    (fun b h d j y => by rw [h3, block4_apply]; exact (rows_val (fun J y => v (ix4 b J h y)) ⟨256 * d.val + j.val, by have : d.val < 4 := d.isLt; omega⟩ y).symm)]
  rw [in4_eq, h4, in0_eq, h0, in1_eq, h1]
  refine Finset.sum_congr rfl fun r _ => ?_
  have hq : queryRow (Layout.block ⟨3, ![2, 256, 512]⟩ ⟨3, ![2, 1024, 512]⟩ 1 4 c x) wq b ⟨r.val / 64, by omega⟩ i
      = fun y => rawQ x wq b ⟨r.val / 64, by omega⟩ ⟨256 * c.val + i.val, by omega⟩ y * Ideal.ofBits .f32 0x3E000000#32 := by
    funext y
    unfold queryRow rawQ
    refine congrArg (· * _) (Finset.sum_congr rfl fun d _ => ?_)
    rw [block3_apply]
    refine congrArg (fun w => (x _ : EReal) * wq (ix2 d w)) (Fin.ext ?_)
    simp only [Nat.mul_comm]
  rw [hq]

end Cert.Halo

namespace Cert.Proof

open Idealize.ShloMosaic Idealize.ShloMosaic.TcCoe Idealize.SL.Sem

/-- The kernel over the extended reals, of finite x, query matrix and keys, leaves on each device its rows of the reference's result. -/
theorem algebraic [Cert.Pre_finite_KernelIdeal.Facts] : Cert.algebraic_KernelIdeal_ReferenceIdeal_pre_finite_KernelIdeal := by
  intro m g m' g' hpre hm
  have hr := fun c => Cert.Halo.real_of_finite _ _ _ _ _ (hpre c)
  have hx := Cert.Halo.real_of_blocks3 (m' ((0 : Dev Cert.ReferenceIdeal.nD).tc.loc Cert.ReferenceIdeal.main_arg0)) fun c i =>
    (congrFun (hm c).1 i) ▸ (hr c).1 i
  have hwq : ∀ i, Cert.Halo.IsReal (m' ((0 : Dev Cert.ReferenceIdeal.nD).tc.loc Cert.ReferenceIdeal.main_arg1) i) := fun i =>
    (congrFun (hm 0).2.1 i) ▸ (hr 0).2.1 i
  have hk := Cert.Halo.real_of_blocks4 (m' ((0 : Dev Cert.ReferenceIdeal.nD).tc.loc Cert.ReferenceIdeal.main_arg2)) fun c i =>
    (congrFun (hm c).2.2.1 i) ▸ (hr c).2.2 i
  have ho := Cert.Halo.out_eq m _ _ _ _ _ (fun c => (hm c).1) (fun c => (hm c).2.1) (fun c => (hm c).2.2.1) (fun c => (hm c).2.2.2.1) (fun c => (hm c).2.2.2.2)
    hx hwq hk
  refine ⟨Cert.ReferenceIdeal.Value.res_main_v35 m' 0, ?_, ?_⟩
  · refine (θ_run (Cert.KernelIdeal.defs (F := Ideal)) _ _).mono (fun r h c => ?_) (Cert.KernelIdeal.Halo.run_main (F := Ideal) m g)
    exact ⟨(h.1 c).2.trans ((Cert.KernelIdeal.Halo.arr_eq m c).trans ((ho c).trans (by rw [Cert.ReferenceIdeal.Halo.res_eq]))), (h.1 c).1⟩
  · exact (θ_run (Cert.ReferenceIdeal.defs (F := Ideal)) _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Halo.facts_kernel, Cert.Halo.facts_reference,
  frame_kernel, frame_kernelIdeal, fun m g _ => frame_kernelIdeal m g trivial, frame_reference, fun m g _ => frame_reference m g trivial, trivial,
  @algebraic Cert.Halo.facts_kernel⟩

end Cert.Proof

end
